-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_steps_first [hPre_steps_first : Cert.Pre_steps_first.Facts] (m : (ℓ : Loc Cert.KernelIdeal.nD Cert.KernelIdeal.τ Cert.KernelIdeal.sig) → Buf (Elt Ideal) ℓ) : Prop :=
  ∀ c : Dev Cert.KernelIdeal.nD,
    (Cert.Pre_steps_first.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_steps_first [hPre_steps_first : Cert.Pre_steps_first.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_steps_first.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_steps_first [hKernelIdeal : Cert.KernelIdeal.Facts] [hPre_steps_first : Cert.Pre_steps_first.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_steps_first m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_steps_first [hReferenceIdeal : Cert.ReferenceIdeal.Facts] [hPre_steps_first : Cert.Pre_steps_first.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_steps_first m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_steps_first [hKernelIdeal : Cert.KernelIdeal.Facts] [hReferenceIdeal : Cert.ReferenceIdeal.Facts] [hPre_steps_first : Cert.Pre_steps_first.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_steps_first m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_steps_first : Cert.Pre_steps_first.Facts),
    quiescent_Kernel (hKernel := hKernel)
    ∧ quiescent_KernelIdeal (hKernelIdeal := hKernelIdeal)
    ∧ quiescent_KernelIdeal_pre_steps_first (hKernelIdeal := hKernelIdeal) (hPre_steps_first := hPre_steps_first)
    ∧ quiescent_ReferenceIdeal (hReferenceIdeal := hReferenceIdeal)
    ∧ quiescent_ReferenceIdeal_pre_steps_first (hReferenceIdeal := hReferenceIdeal) (hPre_steps_first := hPre_steps_first)
    ∧ preserves_Kernel_KernelIdeal
    ∧ algebraic_KernelIdeal_ReferenceIdeal_pre_steps_first (hKernelIdeal := hKernelIdeal) (hReferenceIdeal := hReferenceIdeal) (hPre_steps_first := hPre_steps_first)
-- ==== Pre_steps_first.lean ====
abbrev S16x2048x512 : Shape := ⟨3, ![16, 2048, 512]⟩
abbrev S16x2048 : Shape := ⟨2, ![16, 2048]⟩
abbrev S512x2048 : Shape := ⟨2, ![512, 2048]⟩
abbrev S2048 : Shape := ⟨1, ![2048]⟩
abbrev S16x2047 : Shape := ⟨2, ![16, 2047]⟩

class Facts : Prop where
  slices_S16x2048_S16x2047_0_0 : S16x2048.Slices ![0, 0] S16x2047
  slices_S16x2048_S16x2047_0_1 : S16x2048.Slices ![0, 1] S16x2047

variable [Facts]

def fn {F : FTy → Type} [FloatOps F] (main_arg0 : FVec F S16x2048x512 .f32) (main_arg1 : IVec S16x2048 1) (main_arg2 : FVec F S512x2048 .f32) (main_arg3 : FVec F S512x2048 .f32) (main_arg4 : FVec F S2048 .f32) : IVec S16x2047 1 :=
  let main_v0 : IVec S16x2047 1 := (extractStridedSlice S16x2047 ![0, 0] · slices_S16x2048_S16x2047_0_0) main_arg1
  let main_v1 : IVec S16x2047 1 := (extractStridedSlice S16x2047 ![0, 1] · slices_S16x2048_S16x2047_0_1) main_arg1
  let main_v2 : IVec S16x2047 1 := noti main_v1
  let main_v3 : IVec S16x2047 1 := ori main_v0 main_v2
  main_v3
-- ==== Kernel.lean ====
abbrev S16x2048x512 : Shape := ⟨3, ![16, 2048, 512]⟩
abbrev S16x2048 : Shape := ⟨2, ![16, 2048]⟩
abbrev S512x2048 : Shape := ⟨2, ![512, 2048]⟩
abbrev S2048 : Shape := ⟨1, ![2048]⟩
abbrev S2048x16 : Shape := ⟨2, ![2048, 16]⟩
abbrev S2048x16x1 : Shape := ⟨3, ![2048, 16, 1]⟩
abbrev S1x2048 : Shape := ⟨2, ![1, 2048]⟩
abbrev S16x512 : Shape := ⟨2, ![16, 512]⟩
abbrev S16x128x512 : Shape := ⟨3, ![16, 128, 512]⟩
abbrev S128x16x1 : Shape := ⟨3, ![128, 16, 1]⟩
abbrev S128x16x2048 : Shape := ⟨3, ![128, 16, 2048]⟩
abbrev S16x1 : Shape := ⟨2, ![16, 1]⟩
abbrev S1x16x1 : Shape := ⟨3, ![1, 16, 1]⟩
abbrev S1 : Shape := ⟨1, ![1]⟩
abbrev S1x1x1 : Shape := ⟨3, ![1, 1, 1]⟩
abbrev S128x16x512 : Shape := ⟨3, ![128, 16, 512]⟩
abbrev S1x16x2048 : Shape := ⟨3, ![1, 16, 2048]⟩
abbrev S16x1x512 : Shape := ⟨3, ![16, 1, 512]⟩

abbrev nBuf : Space → Nat
  | .hbm => 13
  | .vmem => 14
  | .smem => 0
  | _ => 0

abbrev bufTy : (tb : Table) → Fin (tcTables nBuf tb) → BufTy
  | .hbm, ⟨0, _⟩ => ⟨S16x2048x512, .f32⟩
  | .hbm, ⟨1, _⟩ => ⟨S16x2048, .i1⟩
  | .hbm, ⟨2, _⟩ => ⟨S512x2048, .f32⟩
  | .hbm, ⟨3, _⟩ => ⟨S512x2048, .f32⟩
  | .hbm, ⟨4, _⟩ => ⟨S2048, .f32⟩
  | .hbm, ⟨5, _⟩ => ⟨S2048x16, .i1⟩
  | .hbm, ⟨6, _⟩ => ⟨S2048x16, .f32⟩
  | .hbm, ⟨7, _⟩ => ⟨S2048x16x1, .f32⟩
  | .hbm, ⟨8, _⟩ => ⟨S1x2048, .f32⟩
  | .hbm, ⟨9, _⟩ => ⟨S512x2048, .bf16⟩
  | .hbm, ⟨10, _⟩ => ⟨S16x2048x512, .f32⟩
  | .hbm, ⟨11, _⟩ => ⟨S16x512, .f32⟩
  | .hbm, ⟨12, _⟩ => ⟨S16x512, .f32⟩
  | .local _ .vmem, ⟨0, _⟩ => ⟨S16x128x512, .f32⟩
  | .local _ .vmem, ⟨1, _⟩ => ⟨S16x128x512, .f32⟩
  | .local _ .vmem, ⟨2, _⟩ => ⟨S128x16x1, .f32⟩
  | .local _ .vmem, ⟨3, _⟩ => ⟨S128x16x1, .f32⟩
  | .local _ .vmem, ⟨4, _⟩ => ⟨S512x2048, .f32⟩
  | .local _ .vmem, ⟨5, _⟩ => ⟨S512x2048, .bf16⟩
  | .local _ .vmem, ⟨6, _⟩ => ⟨S1x2048, .f32⟩
  | .local _ .vmem, ⟨7, _⟩ => ⟨S16x128x512, .f32⟩
  | .local _ .vmem, ⟨8, _⟩ => ⟨S16x128x512, .f32⟩
  | .local _ .vmem, ⟨9, _⟩ => ⟨S16x512, .f32⟩
  | .local _ .vmem, ⟨10, _⟩ => ⟨S16x512, .f32⟩
  | .local _ .vmem, ⟨11, _⟩ => ⟨S128x16x2048, .f32⟩
  | .local _ .vmem, ⟨12, _⟩ => ⟨S16x512, .f32⟩
  | .local _ .vmem, ⟨13, _⟩ => ⟨S16x512, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

@[reducible] def k0_t1_loop (v12 : BitVec 32) : Scf.Loop 32 :=
  let c0_i32_35 : BitVec 32 := 0#32
  let c7_i32 : BitVec 32 := 7#32
  let v30 : BitVec 32 := Scalar.addi v12 c7_i32
  let c0_i32_26 : BitVec 32 := 0#32
  let v32 : BitVec 1 := Scalar.cmpi .sgt v30 c0_i32_26
  let v33 : BitVec 32 := Scalar.extui v32
  let c0_i32_27 : BitVec 32 := 0#32
  let v34 : BitVec 1 := Scalar.cmpi .slt v30 c0_i32_27
  let v35 : BitVec 32 := Scalar.extui v34
  let v36 : BitVec 32 := Scalar.subi v33 v35
  let c8_i32 : BitVec 32 := 8#32
  let c0_i32_28 : BitVec 32 := 0#32
  let v37 : BitVec 1 := Scalar.cmpi .sgt c8_i32 c0_i32_28
  let v38 : BitVec 32 := Scalar.extui v37
  let c0_i32_29 : BitVec 32 := 0#32
  let v39 : BitVec 1 := Scalar.cmpi .slt c8_i32 c0_i32_29
  let v40 : BitVec 32 := Scalar.extui v39
  let v41 : BitVec 32 := Scalar.subi v38 v40
  let v42 : BitVec 1 := Scalar.cmpi .ne v36 v41
  let v43 : BitVec 32 := Scalar.remsi v30 c8_i32
  let c0_i32_30 : BitVec 32 := 0#32
  let v44 : BitVec 1 := Scalar.cmpi .ne v43 c0_i32_30
  let v45 : BitVec 1 := Scalar.andi v42 v44
  let v31 : BitVec 32 := Scalar.divsi v30 c8_i32
  let c1_i32 : BitVec 32 := 1#32
  let v46 : BitVec 32 := Scalar.subi v31 c1_i32
  let v47 : BitVec 32 := Scalar.select v45 v46 v31
  let v50 : BitVec 32 := Scalar.subi v47 c0_i32_35
  let c1_i32_36 : BitVec 32 := 1#32
  let v52 : BitVec 32 := Scalar.divsi v50 c1_i32_36
  let v53 : BitVec 32 := Scalar.muli v52 c1_i32_36
  let v54 : BitVec 32 := Scalar.addi c0_i32_35 v53
  let c1_i32_37 : BitVec 32 := 1#32
  ⟨c0_i32_35, v54, c1_i32_37⟩
def k0_cond3 (v12 : BitVec 32) : BitVec 1 :=
  let c0_i32_7 : BitVec 32 := 0#32
  let v16 : BitVec 1 := Scalar.cmpi .sgt v12 c0_i32_7
  let v17 : BitVec 32 := Scalar.extui v16
  let c0_i32_8 : BitVec 32 := 0#32
  let v18 : BitVec 1 := Scalar.cmpi .ne v17 c0_i32_8
  v18

def k0_off1 (v12 : BitVec 32) (k0_t1 : Fin (k0_t1_loop v12).trips) (c0_i32_44 : BitVec 32) : Fin 3 → Nat :=
  let c8_i32_43 : BitVec 32 := 8#32
  let c0_i32_35 : BitVec 32 := 0#32
  let c1_i32_37 : BitVec 32 := 1#32
  let arg12 : BitVec 32 := Scf.iv c0_i32_35 c1_i32_37 k0_t1
  let v63 : BitVec 32 := Scalar.muli c8_i32_43 arg12
  let v64 : BitVec 32 := Scalar.addi v63 c0_i32_44
  let v65 : Index := Scalar.indexCast v64
  let c0_45 : Index := 0#32
  let c0_46 : Index := 0#32
  ![v65.toNat, 0, 0]
def k0_off2 (v12 : BitVec 32) (k0_t1 : Fin (k0_t1_loop v12).trips) (c0_i32_44 : BitVec 32) : Fin 3 → Nat :=
  let c8_i32_43 : BitVec 32 := 8#32
  let c0_i32_35 : BitVec 32 := 0#32
  let c1_i32_37 : BitVec 32 := 1#32
  let arg12 : BitVec 32 := Scf.iv c0_i32_35 c1_i32_37 k0_t1
  let v63 : BitVec 32 := Scalar.muli c8_i32_43 arg12
  let v64 : BitVec 32 := Scalar.addi v63 c0_i32_44
  let v88 : Index := Scalar.indexCast v64
  let c0_50 : Index := 0#32
  let c0_51 : Index := 0#32
  ![v88.toNat, 0, 0]
def k0_off3 (v12 : BitVec 32) (k0_t1 : Fin (k0_t1_loop v12).trips) (c0_i32_44 : BitVec 32) : Fin 3 → Nat :=
  let c0_54 : Index := 0#32
  let c8_i32_43 : BitVec 32 := 8#32
  let c0_i32_35 : BitVec 32 := 0#32
  let c1_i32_37 : BitVec 32 := 1#32
  let arg12 : BitVec 32 := Scf.iv c0_i32_35 c1_i32_37 k0_t1
  let v63 : BitVec 32 := Scalar.muli c8_i32_43 arg12
  let v64 : BitVec 32 := Scalar.addi v63 c0_i32_44
  let v104 : Index := Scalar.indexCast v64
  let c0_55 : Index := 0#32
  ![0, v104.toNat, 0]
@[reducible] def k0_t2_loop (v12 : BitVec 32) : Scf.Loop 32 :=
  let c0_i32_35 : BitVec 32 := 0#32
  let c7_i32 : BitVec 32 := 7#32
  let v30 : BitVec 32 := Scalar.addi v12 c7_i32
  let c0_i32_26 : BitVec 32 := 0#32
  let v32 : BitVec 1 := Scalar.cmpi .sgt v30 c0_i32_26
  let v33 : BitVec 32 := Scalar.extui v32
  let c0_i32_27 : BitVec 32 := 0#32
  let v34 : BitVec 1 := Scalar.cmpi .slt v30 c0_i32_27
  let v35 : BitVec 32 := Scalar.extui v34
  let v36 : BitVec 32 := Scalar.subi v33 v35
  let c8_i32 : BitVec 32 := 8#32
  let c0_i32_28 : BitVec 32 := 0#32
  let v37 : BitVec 1 := Scalar.cmpi .sgt c8_i32 c0_i32_28
  let v38 : BitVec 32 := Scalar.extui v37
  let c0_i32_29 : BitVec 32 := 0#32
  let v39 : BitVec 1 := Scalar.cmpi .slt c8_i32 c0_i32_29
  let v40 : BitVec 32 := Scalar.extui v39
  let v41 : BitVec 32 := Scalar.subi v38 v40
  let v42 : BitVec 1 := Scalar.cmpi .ne v36 v41
  let v43 : BitVec 32 := Scalar.remsi v30 c8_i32
  let c0_i32_30 : BitVec 32 := 0#32
  let v44 : BitVec 1 := Scalar.cmpi .ne v43 c0_i32_30
  let v45 : BitVec 1 := Scalar.andi v42 v44
  let v31 : BitVec 32 := Scalar.divsi v30 c8_i32
  let c1_i32 : BitVec 32 := 1#32
  let v46 : BitVec 32 := Scalar.subi v31 c1_i32
  let v47 : BitVec 32 := Scalar.select v45 v46 v31
  let v50 : BitVec 32 := Scalar.subi v47 c0_i32_35
  let c1_i32_36 : BitVec 32 := 1#32
  let v52 : BitVec 32 := Scalar.divsi v50 c1_i32_36
  let v53 : BitVec 32 := Scalar.muli v52 c1_i32_36
  let v54 : BitVec 32 := Scalar.addi c0_i32_35 v53
  let v51 : BitVec 32 := Scalar.addi c0_i32_35 v50
  let c1_i32_38 : BitVec 32 := 1#32
  ⟨v54, v51, c1_i32_38⟩
def k0_off4 (v12 : BitVec 32) (k0_t2 : Fin (k0_t2_loop v12).trips) (c0_i32_44 : BitVec 32) : Fin 3 → Nat :=
  let c8_i32_43 : BitVec 32 := 8#32
  let c0_i32_35 : BitVec 32 := 0#32
  let c7_i32 : BitVec 32 := 7#32
  let v30 : BitVec 32 := Scalar.addi v12 c7_i32
  let c0_i32_26 : BitVec 32 := 0#32
  let v32 : BitVec 1 := Scalar.cmpi .sgt v30 c0_i32_26
  let v33 : BitVec 32 := Scalar.extui v32
  let c0_i32_27 : BitVec 32 := 0#32
  let v34 : BitVec 1 := Scalar.cmpi .slt v30 c0_i32_27
  let v35 : BitVec 32 := Scalar.extui v34
  let v36 : BitVec 32 := Scalar.subi v33 v35
  let c8_i32 : BitVec 32 := 8#32
  let c0_i32_28 : BitVec 32 := 0#32
  let v37 : BitVec 1 := Scalar.cmpi .sgt c8_i32 c0_i32_28
  let v38 : BitVec 32 := Scalar.extui v37
  let c0_i32_29 : BitVec 32 := 0#32
  let v39 : BitVec 1 := Scalar.cmpi .slt c8_i32 c0_i32_29
  let v40 : BitVec 32 := Scalar.extui v39
  let v41 : BitVec 32 := Scalar.subi v38 v40
  let v42 : BitVec 1 := Scalar.cmpi .ne v36 v41
  let v43 : BitVec 32 := Scalar.remsi v30 c8_i32
  let c0_i32_30 : BitVec 32 := 0#32
  let v44 : BitVec 1 := Scalar.cmpi .ne v43 c0_i32_30
  let v45 : BitVec 1 := Scalar.andi v42 v44
  let v31 : BitVec 32 := Scalar.divsi v30 c8_i32
  let c1_i32 : BitVec 32 := 1#32
  let v46 : BitVec 32 := Scalar.subi v31 c1_i32
  let v47 : BitVec 32 := Scalar.select v45 v46 v31
  let v50 : BitVec 32 := Scalar.subi v47 c0_i32_35
  let c1_i32_36 : BitVec 32 := 1#32
  let v52 : BitVec 32 := Scalar.divsi v50 c1_i32_36
  let v53 : BitVec 32 := Scalar.muli v52 c1_i32_36
  let v54 : BitVec 32 := Scalar.addi c0_i32_35 v53
  let c1_i32_38 : BitVec 32 := 1#32
  let arg12 : BitVec 32 := Scf.iv v54 c1_i32_38 k0_t2
  let v63 : BitVec 32 := Scalar.muli c8_i32_43 arg12
  let v64 : BitVec 32 := Scalar.addi v63 c0_i32_44
  let v65 : Index := Scalar.indexCast v64
  let c0_45 : Index := 0#32
  let c0_46 : Index := 0#32
  ![v65.toNat, 0, 0]
def k0_off5 (v12 : BitVec 32) (k0_t2 : Fin (k0_t2_loop v12).trips) (c0_i32_44 : BitVec 32) : Fin 3 → Nat :=
  let c8_i32_43 : BitVec 32 := 8#32
  let c0_i32_35 : BitVec 32 := 0#32
  let c7_i32 : BitVec 32 := 7#32
  let v30 : BitVec 32 := Scalar.addi v12 c7_i32
  let c0_i32_26 : BitVec 32 := 0#32
  let v32 : BitVec 1 := Scalar.cmpi .sgt v30 c0_i32_26
  let v33 : BitVec 32 := Scalar.extui v32
  let c0_i32_27 : BitVec 32 := 0#32
  let v34 : BitVec 1 := Scalar.cmpi .slt v30 c0_i32_27
  let v35 : BitVec 32 := Scalar.extui v34
  let v36 : BitVec 32 := Scalar.subi v33 v35
  let c8_i32 : BitVec 32 := 8#32
  let c0_i32_28 : BitVec 32 := 0#32
  let v37 : BitVec 1 := Scalar.cmpi .sgt c8_i32 c0_i32_28
  let v38 : BitVec 32 := Scalar.extui v37
  let c0_i32_29 : BitVec 32 := 0#32
  let v39 : BitVec 1 := Scalar.cmpi .slt c8_i32 c0_i32_29
  let v40 : BitVec 32 := Scalar.extui v39
  let v41 : BitVec 32 := Scalar.subi v38 v40
  let v42 : BitVec 1 := Scalar.cmpi .ne v36 v41
  let v43 : BitVec 32 := Scalar.remsi v30 c8_i32
  let c0_i32_30 : BitVec 32 := 0#32
  let v44 : BitVec 1 := Scalar.cmpi .ne v43 c0_i32_30
  let v45 : BitVec 1 := Scalar.andi v42 v44
  let v31 : BitVec 32 := Scalar.divsi v30 c8_i32
  let c1_i32 : BitVec 32 := 1#32
  let v46 : BitVec 32 := Scalar.subi v31 c1_i32
  let v47 : BitVec 32 := Scalar.select v45 v46 v31
  let v50 : BitVec 32 := Scalar.subi v47 c0_i32_35
  let c1_i32_36 : BitVec 32 := 1#32
  let v52 : BitVec 32 := Scalar.divsi v50 c1_i32_36
  let v53 : BitVec 32 := Scalar.muli v52 c1_i32_36
  let v54 : BitVec 32 := Scalar.addi c0_i32_35 v53
  let c1_i32_38 : BitVec 32 := 1#32
  let arg12 : BitVec 32 := Scf.iv v54 c1_i32_38 k0_t2
  let v63 : BitVec 32 := Scalar.muli c8_i32_43 arg12
  let v64 : BitVec 32 := Scalar.addi v63 c0_i32_44
  let v88 : Index := Scalar.indexCast v64
  let c0_50 : Index := 0#32
  let c0_51 : Index := 0#32
  ![v88.toNat, 0, 0]
def k0_off6 (v12 : BitVec 32) (k0_t2 : Fin (k0_t2_loop v12).trips) (c0_i32_44 : BitVec 32) : Fin 3 → Nat :=
  let c0_54 : Index := 0#32
  let c8_i32_43 : BitVec 32 := 8#32
  let c0_i32_35 : BitVec 32 := 0#32
  let c7_i32 : BitVec 32 := 7#32
  let v30 : BitVec 32 := Scalar.addi v12 c7_i32
  let c0_i32_26 : BitVec 32 := 0#32
  let v32 : BitVec 1 := Scalar.cmpi .sgt v30 c0_i32_26
  let v33 : BitVec 32 := Scalar.extui v32
  let c0_i32_27 : BitVec 32 := 0#32
  let v34 : BitVec 1 := Scalar.cmpi .slt v30 c0_i32_27
  let v35 : BitVec 32 := Scalar.extui v34
  let v36 : BitVec 32 := Scalar.subi v33 v35
  let c8_i32 : BitVec 32 := 8#32
  let c0_i32_28 : BitVec 32 := 0#32
  let v37 : BitVec 1 := Scalar.cmpi .sgt c8_i32 c0_i32_28
  let v38 : BitVec 32 := Scalar.extui v37
  let c0_i32_29 : BitVec 32 := 0#32
  let v39 : BitVec 1 := Scalar.cmpi .slt c8_i32 c0_i32_29
  let v40 : BitVec 32 := Scalar.extui v39
  let v41 : BitVec 32 := Scalar.subi v38 v40
  let v42 : BitVec 1 := Scalar.cmpi .ne v36 v41
  let v43 : BitVec 32 := Scalar.remsi v30 c8_i32
  let c0_i32_30 : BitVec 32 := 0#32
  let v44 : BitVec 1 := Scalar.cmpi .ne v43 c0_i32_30
  let v45 : BitVec 1 := Scalar.andi v42 v44
  let v31 : BitVec 32 := Scalar.divsi v30 c8_i32
  let c1_i32 : BitVec 32 := 1#32
  let v46 : BitVec 32 := Scalar.subi v31 c1_i32
  let v47 : BitVec 32 := Scalar.select v45 v46 v31
  let v50 : BitVec 32 := Scalar.subi v47 c0_i32_35
  let c1_i32_36 : BitVec 32 := 1#32
  let v52 : BitVec 32 := Scalar.divsi v50 c1_i32_36
  let v53 : BitVec 32 := Scalar.muli v52 c1_i32_36
  let v54 : BitVec 32 := Scalar.addi c0_i32_35 v53
  let c1_i32_38 : BitVec 32 := 1#32
  let arg12 : BitVec 32 := Scf.iv v54 c1_i32_38 k0_t2
  let v63 : BitVec 32 := Scalar.muli c8_i32_43 arg12
  let v64 : BitVec 32 := Scalar.addi v63 c0_i32_44
  let v104 : Index := Scalar.indexCast v64
  let c0_55 : Index := 0#32
  ![0, v104.toNat, 0]

def k0_chk1 (v12 : BitVec 32) : Prop :=
  (∀ (k0_h3 : k0_cond3 v12 = 1#1), (k0_t1_loop v12).OK) ∧
  (∀ k0_t1 : Fin (k0_t1_loop v12).trips, ∀ (k0_h3 : k0_cond3 v12 = 1#1), ∀ (r : Fin 8), ∀ a, (k0_off1 v12 k0_t1 (BitVec.ofNat 32 r.val)) a + S1x16x2048.size a ≤ S128x16x2048.size a) ∧
  (∀ k0_t1 : Fin (k0_t1_loop v12).trips, ∀ (k0_h3 : k0_cond3 v12 = 1#1), ∀ (r : Fin 8), ∀ a, (k0_off2 v12 k0_t1 (BitVec.ofNat 32 r.val)) a + S1x16x1.size a ≤ S128x16x1.size a) ∧
  (∀ k0_t1 : Fin (k0_t1_loop v12).trips, ∀ (k0_h3 : k0_cond3 v12 = 1#1), ∀ (r : Fin 8), ∀ a, (k0_off3 v12 k0_t1 (BitVec.ofNat 32 r.val)) a + S16x1x512.size a ≤ S16x128x512.size a) ∧
  (∀ (k0_h3 : k0_cond3 v12 = 1#1), (k0_t2_loop v12).OK) ∧
  (∀ k0_t2 : Fin (k0_t2_loop v12).trips, ∀ (k0_h3 : k0_cond3 v12 = 1#1), ∀ (r : Fin 8), ∀ a, (k0_off4 v12 k0_t2 (BitVec.ofNat 32 r.val)) a + S1x16x2048.size a ≤ S128x16x2048.size a) ∧
  (∀ k0_t2 : Fin (k0_t2_loop v12).trips, ∀ (k0_h3 : k0_cond3 v12 = 1#1), ∀ (r : Fin 8), ∀ a, (k0_off5 v12 k0_t2 (BitVec.ofNat 32 r.val)) a + S1x16x1.size a ≤ S128x16x1.size a) ∧
  (∀ k0_t2 : Fin (k0_t2_loop v12).trips, ∀ (k0_h3 : k0_cond3 v12 = 1#1), ∀ (r : Fin 8), ∀ a, (k0_off6 v12 k0_t2 (BitVec.ofNat 32 r.val)) a + S16x1x512.size a ≤ S16x128x512.size a)
theorem k0_t1_ok : ∀ (v12 : BitVec 32) (k0_hw1 : k0_chk1 v12), ∀ (k0_h3 : k0_cond3 v12 = 1#1), (k0_t1_loop v12).OK := fun v12 k0_hw1 k0_h3 => k0_hw1.1 k0_h3
theorem k0_off1_inb : ∀ (v12 : BitVec 32) (k0_hw1 : k0_chk1 v12) (k0_t1 : Fin (k0_t1_loop v12).trips), ∀ (k0_h3 : k0_cond3 v12 = 1#1), ∀ (r : Fin 8), ∀ a, (k0_off1 v12 k0_t1 (BitVec.ofNat 32 r.val)) a + S1x16x2048.size a ≤ S128x16x2048.size a := fun v12 k0_hw1 k0_t1 k0_h3 r => k0_hw1.2.1 k0_t1 k0_h3 r
theorem k0_off2_inb : ∀ (v12 : BitVec 32) (k0_hw1 : k0_chk1 v12) (k0_t1 : Fin (k0_t1_loop v12).trips), ∀ (k0_h3 : k0_cond3 v12 = 1#1), ∀ (r : Fin 8), ∀ a, (k0_off2 v12 k0_t1 (BitVec.ofNat 32 r.val)) a + S1x16x1.size a ≤ S128x16x1.size a := fun v12 k0_hw1 k0_t1 k0_h3 r => k0_hw1.2.2.1 k0_t1 k0_h3 r
theorem k0_off3_inb : ∀ (v12 : BitVec 32) (k0_hw1 : k0_chk1 v12) (k0_t1 : Fin (k0_t1_loop v12).trips), ∀ (k0_h3 : k0_cond3 v12 = 1#1), ∀ (r : Fin 8), ∀ a, (k0_off3 v12 k0_t1 (BitVec.ofNat 32 r.val)) a + S16x1x512.size a ≤ S16x128x512.size a := fun v12 k0_hw1 k0_t1 k0_h3 r => k0_hw1.2.2.2.1 k0_t1 k0_h3 r
theorem k0_t2_ok : ∀ (v12 : BitVec 32) (k0_hw1 : k0_chk1 v12), ∀ (k0_h3 : k0_cond3 v12 = 1#1), (k0_t2_loop v12).OK := fun v12 k0_hw1 k0_h3 => k0_hw1.2.2.2.2.1 k0_h3
theorem k0_off4_inb : ∀ (v12 : BitVec 32) (k0_hw1 : k0_chk1 v12) (k0_t2 : Fin (k0_t2_loop v12).trips), ∀ (k0_h3 : k0_cond3 v12 = 1#1), ∀ (r : Fin 8), ∀ a, (k0_off4 v12 k0_t2 (BitVec.ofNat 32 r.val)) a + S1x16x2048.size a ≤ S128x16x2048.size a := fun v12 k0_hw1 k0_t2 k0_h3 r => k0_hw1.2.2.2.2.2.1 k0_t2 k0_h3 r
theorem k0_off5_inb : ∀ (v12 : BitVec 32) (k0_hw1 : k0_chk1 v12) (k0_t2 : Fin (k0_t2_loop v12).trips), ∀ (k0_h3 : k0_cond3 v12 = 1#1), ∀ (r : Fin 8), ∀ a, (k0_off5 v12 k0_t2 (BitVec.ofNat 32 r.val)) a + S1x16x1.size a ≤ S128x16x1.size a := fun v12 k0_hw1 k0_t2 k0_h3 r => k0_hw1.2.2.2.2.2.2.1 k0_t2 k0_h3 r
theorem k0_off6_inb : ∀ (v12 : BitVec 32) (k0_hw1 : k0_chk1 v12) (k0_t2 : Fin (k0_t2_loop v12).trips), ∀ (k0_h3 : k0_cond3 v12 = 1#1), ∀ (r : Fin 8), ∀ a, (k0_off6 v12 k0_t2 (BitVec.ofNat 32 r.val)) a + S16x1x512.size a ≤ S16x128x512.size a := fun v12 k0_hw1 k0_t2 k0_h3 r => k0_hw1.2.2.2.2.2.2.2 k0_t2 k0_h3 r

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S16x2048x512 : Shape := ⟨3, ![16, 2048, 512]⟩
abbrev S16x2048 : Shape := ⟨2, ![16, 2048]⟩
abbrev S512x2048 : Shape := ⟨2, ![512, 2048]⟩
abbrev S2048 : Shape := ⟨1, ![2048]⟩
abbrev S_ : Shape := ⟨0, ![]⟩
abbrev S16 : Shape := ⟨1, ![16]⟩
abbrev S16x1 : Shape := ⟨2, ![16, 1]⟩
abbrev S16x512 : Shape := ⟨2, ![16, 512]⟩
abbrev S2048x16x512 : Shape := ⟨3, ![2048, 16, 512]⟩
abbrev S1x16x512 : Shape := ⟨3, ![1, 16, 512]⟩
abbrev S1 : Shape := ⟨1, ![1]⟩
abbrev S1x2048 : Shape := ⟨2, ![1, 2048]⟩

abbrev nBuf : Space → Nat
  | .hbm => 145
  | .vmem => 0
  | .smem => 0
  | _ => 0

abbrev hbmTy0_0 (i : Nat) : BufTy := match i % 128 with
  | 0 => ⟨S16x2048x512, .f32⟩
  | 1 => ⟨S16x2048, .i1⟩
  | 2 => ⟨S512x2048, .f32⟩
  | 3 => ⟨S512x2048, .f32⟩
  | 4 => ⟨S2048, .f32⟩
  | 5 => ⟨S16x2048, .i32⟩
  | 6 => ⟨S_, .i32⟩
  | 7 => ⟨S16, .i32⟩
  | 8 => ⟨S16, .i32⟩
  | 9 => ⟨S16, .i32⟩
  | 10 => ⟨S16, .i32⟩
  | 11 => ⟨S16, .i32⟩
  | 12 => ⟨S16, .i32⟩
  | 13 => ⟨S16, .i32⟩
  | 14 => ⟨S16, .i32⟩
  | 15 => ⟨S_, .i32⟩
  | 16 => ⟨S16, .i32⟩
  | 17 => ⟨S16, .i1⟩
  | 18 => ⟨S_, .i32⟩
  | 19 => ⟨S16, .i32⟩
  | 20 => ⟨S16, .i32⟩
  | 21 => ⟨S16, .i32⟩
  | 22 => ⟨S16x1, .i32⟩
  | 23 => ⟨S16x2048x512, .f32⟩
  | 24 => ⟨S_, .i32⟩
  | 25 => ⟨S16, .i32⟩
  | 26 => ⟨S16, .i1⟩
  | 27 => ⟨S_, .i32⟩
  | 28 => ⟨S16, .i32⟩
  | 29 => ⟨S16, .i32⟩
  | 30 => ⟨S16, .i32⟩
  | 31 => ⟨S16x1, .i32⟩
  | 32 => ⟨S16, .i32⟩
  | 33 => ⟨S_, .f32⟩
  | 34 => ⟨S16x512, .f32⟩
  | 35 => ⟨S_, .f32⟩
  | 36 => ⟨S16x512, .f32⟩
  | 37 => ⟨S2048x16x512, .f32⟩
  | 38 => ⟨S2048, .i32⟩
  | 39 => ⟨S_, .f32⟩
  | 40 => ⟨S2048x16x512, .f32⟩
  | 41 => ⟨S_, .i32⟩
  | 42 => ⟨S2048x16x512, .f32⟩
  | 43 => ⟨S2048, .i32⟩
  | 44 => ⟨S512x2048, .f32⟩
  | 45 => ⟨S512x2048, .f32⟩
  | 46 => ⟨S2048, .f32⟩
  | 47 => ⟨S16, .i32⟩
  | 48 => ⟨S_, .i32⟩
  | 49 => ⟨S16x512, .f32⟩
  | 50 => ⟨S16x512, .f32⟩
  | 51 => ⟨S2048x16x512, .f32⟩
  | 52 => ⟨S_, .i32⟩
  | 53 => ⟨S_, .i1⟩
  | 54 => ⟨S_, .i32⟩
  | 55 => ⟨S_, .i32⟩
  | 56 => ⟨S1x16x512, .f32⟩
  | 57 => ⟨S16x512, .f32⟩
  | 58 => ⟨S1, .i32⟩
  | 59 => ⟨S_, .i32⟩
  | 60 => ⟨S16x2048, .f32⟩
  | 61 => ⟨S16x2048, .f32⟩
  | 62 => ⟨S16x2048, .f32⟩
  | 63 => ⟨S1x2048, .f32⟩
  | 64 => ⟨S16x2048, .f32⟩
  | 65 => ⟨S16x2048, .f32⟩
  | 66 => ⟨S16x512, .f32⟩
  | 67 => ⟨S16x512, .f32⟩
  | 68 => ⟨S16x512, .f32⟩
  | 69 => ⟨S16x512, .f32⟩
  | 70 => ⟨S16x512, .f32⟩
  | 71 => ⟨S16x512, .f32⟩
  | 72 => ⟨S_, .f32⟩
  | 73 => ⟨S16x512, .f32⟩
  | 74 => ⟨S16x512, .f32⟩
  | 75 => ⟨S_, .f32⟩
  | 76 => ⟨S16x512, .f32⟩
  | 77 => ⟨S16x512, .f32⟩
  | 78 => ⟨S16x512, .f32⟩
  | 79 => ⟨S16x512, .f32⟩
  | 80 => ⟨S16x512, .f32⟩
  | 81 => ⟨S_, .f32⟩
  | 82 => ⟨S16x512, .f32⟩
  | 83 => ⟨S16x512, .f32⟩
  | 84 => ⟨S_, .f32⟩
  | 85 => ⟨S16x512, .f32⟩
  | 86 => ⟨S16x512, .f32⟩
  | 87 => ⟨S16x512, .f32⟩
  | 88 => ⟨S16x512, .f32⟩
  | 89 => ⟨S16x512, .f32⟩
  | 90 => ⟨S16x512, .f32⟩
  | 91 => ⟨S16x512, .f32⟩
  | 92 => ⟨S_, .f32⟩
  | 93 => ⟨S16x512, .f32⟩
  | 94 => ⟨S16x512, .f32⟩
  | 95 => ⟨S_, .f32⟩
  | 96 => ⟨S16x512, .f32⟩
  | 97 => ⟨S16x512, .f32⟩
  | 98 => ⟨S16x512, .f32⟩
  | 99 => ⟨S16x512, .f32⟩
  | 100 => ⟨S16, .i32⟩
  | 101 => ⟨S16, .i1⟩
  | 102 => ⟨S16x1, .i1⟩
  | 103 => ⟨S16x512, .i1⟩
  | 104 => ⟨S16x512, .f32⟩
  | 105 => ⟨S16x512, .i1⟩
  | 106 => ⟨S16x512, .f32⟩
  | 107 => ⟨S_, .f32⟩
  | 108 => ⟨S16x512, .f32⟩
  | 109 => ⟨S16x512, .i1⟩
  | 110 => ⟨S16x512, .f32⟩
  | 111 => ⟨S1x16x512, .f32⟩
  | 112 => ⟨S_, .i32⟩
  | 113 => ⟨S_, .i32⟩
  | 114 => ⟨S2048x16x512, .f32⟩
  | 115 => ⟨S_, .i32⟩
  | 116 => ⟨S_, .i32⟩
  | 117 => ⟨S16x2048x512, .f32⟩
  | 118 => ⟨S_, .i32⟩
  | 119 => ⟨S16, .i32⟩
  | 120 => ⟨S16, .i1⟩
  | 121 => ⟨S_, .i32⟩
  | 122 => ⟨S16, .i32⟩
  | 123 => ⟨S16, .i32⟩
  | 124 => ⟨S16, .i32⟩
  | 125 => ⟨S16x1, .i32⟩
  | 126 => ⟨S16x2048x512, .f32⟩
  | 127 => ⟨S_, .i32⟩
  | _ => ⟨S16x2048x512, .f32⟩

abbrev hbmTy0_1 (i : Nat) : BufTy := match i % 128 with
  | 0 => ⟨S16, .i32⟩
  | 1 => ⟨S16, .i1⟩
  | 2 => ⟨S_, .i32⟩
  | 3 => ⟨S16, .i32⟩
  | 4 => ⟨S16, .i32⟩
  | 5 => ⟨S16, .i32⟩
  | 6 => ⟨S16x1, .i32⟩
  | 7 => ⟨S16x512, .f32⟩
  | 8 => ⟨S_, .i32⟩
  | 9 => ⟨S16, .i32⟩
  | 10 => ⟨S16, .i1⟩
  | 11 => ⟨S_, .i32⟩
  | 12 => ⟨S16, .i32⟩
  | 13 => ⟨S16, .i32⟩
  | 14 => ⟨S16, .i32⟩
  | 15 => ⟨S16x1, .i32⟩
  | 16 => ⟨S16x512, .f32⟩
  | _ => ⟨S16x2048x512, .f32⟩

abbrev hbmTy (i : Nat) : BufTy := match i / 128 with
  | 0 => hbmTy0_0 i
  | 1 => hbmTy0_1 i
  | _ => ⟨S16x2048x512, .f32⟩

abbrev bufTy : (tb : Table) → Fin (tcTables nBuf tb) → BufTy
  | .hbm, ⟨i, _⟩ => hbmTy i
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1_0 : Ref sig .tc := ⟨.hbm, 10, rfl⟩
abbrev main_v3 : Ref sig .tc := ⟨.hbm, 11, rfl⟩
abbrev main_call1_v0 : Ref sig .tc := ⟨.hbm, 12, rfl⟩
abbrev main_call1_v1_0 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_c_6 : Ref sig .tc := ⟨.hbm, 41, rfl⟩
abbrev main_v24_0 : Ref sig .tc := ⟨.hbm, 42, rfl⟩
abbrev main_v24_1 : Ref sig .tc := ⟨.hbm, 43, rfl⟩
abbrev main_v24_2 : Ref sig .tc := ⟨.hbm, 44, rfl⟩
abbrev main_v24_3 : Ref sig .tc := ⟨.hbm, 45, rfl⟩
abbrev main_v24_4 : Ref sig .tc := ⟨.hbm, 46, rfl⟩
abbrev main_v24_5 : Ref sig .tc := ⟨.hbm, 47, rfl⟩
abbrev main_v24_6 : Ref sig .tc := ⟨.hbm, 48, rfl⟩
abbrev main_v24_7 : Ref sig .tc := ⟨.hbm, 49, rfl⟩
abbrev main_v24_8 : Ref sig .tc := ⟨.hbm, 50, rfl⟩
abbrev main_v24_9 : Ref sig .tc := ⟨.hbm, 51, rfl⟩
abbrev main_while0c_c_22 : Ref sig .tc := ⟨.hbm, 52, rfl⟩
abbrev main_while0c_v47 : Ref sig .tc := ⟨.hbm, 53, rfl⟩
abbrev main_while0b_call2_c : Ref sig .tc := ⟨.hbm, 54, rfl⟩
abbrev main_while0b_call2_c_0 : Ref sig .tc := ⟨.hbm, 55, rfl⟩
abbrev main_while0b_call2_v0 : Ref sig .tc := ⟨.hbm, 56, rfl⟩
abbrev main_while0b_v47 : Ref sig .tc := ⟨.hbm, 57, rfl⟩
abbrev main_while0b_call3_v0 : Ref sig .tc := ⟨.hbm, 58, rfl⟩
abbrev main_while0b_v48 : Ref sig .tc := ⟨.hbm, 59, rfl⟩
abbrev main_while0b_v49 : Ref sig .tc := ⟨.hbm, 60, rfl⟩
abbrev main_while0b_v50 : Ref sig .tc := ⟨.hbm, 61, rfl⟩
abbrev main_while0b_v51 : Ref sig .tc := ⟨.hbm, 62, rfl⟩
abbrev main_while0b_v52 : Ref sig .tc := ⟨.hbm, 63, rfl⟩
abbrev main_while0b_v53 : Ref sig .tc := ⟨.hbm, 64, rfl⟩
abbrev main_while0b_v54 : Ref sig .tc := ⟨.hbm, 65, rfl⟩
abbrev main_while0b_v55 : Ref sig .tc := ⟨.hbm, 66, rfl⟩
abbrev main_while0b_v56 : Ref sig .tc := ⟨.hbm, 67, rfl⟩
abbrev main_while0b_v57 : Ref sig .tc := ⟨.hbm, 68, rfl⟩
abbrev main_while0b_v58 : Ref sig .tc := ⟨.hbm, 69, rfl⟩
abbrev main_while0b_v59 : Ref sig .tc := ⟨.hbm, 70, rfl⟩
abbrev main_while0b_v60 : Ref sig .tc := ⟨.hbm, 71, rfl⟩
abbrev main_while0b_cst_22 : Ref sig .tc := ⟨.hbm, 72, rfl⟩
abbrev main_while0b_v61 : Ref sig .tc := ⟨.hbm, 73, rfl⟩
abbrev main_while0b_v62 : Ref sig .tc := ⟨.hbm, 74, rfl⟩
abbrev main_while0b_cst_23 : Ref sig .tc := ⟨.hbm, 75, rfl⟩
abbrev main_while0b_v63 : Ref sig .tc := ⟨.hbm, 76, rfl⟩
abbrev main_while0b_v64 : Ref sig .tc := ⟨.hbm, 77, rfl⟩
abbrev main_while0b_v65 : Ref sig .tc := ⟨.hbm, 78, rfl⟩
abbrev main_while0b_v66 : Ref sig .tc := ⟨.hbm, 79, rfl⟩
abbrev main_while0b_v67 : Ref sig .tc := ⟨.hbm, 80, rfl⟩
abbrev main_while0b_cst_24 : Ref sig .tc := ⟨.hbm, 81, rfl⟩
abbrev main_while0b_v68 : Ref sig .tc := ⟨.hbm, 82, rfl⟩
abbrev main_while0b_v69 : Ref sig .tc := ⟨.hbm, 83, rfl⟩
abbrev main_while0b_cst_25 : Ref sig .tc := ⟨.hbm, 84, rfl⟩
abbrev main_while0b_v70 : Ref sig .tc := ⟨.hbm, 85, rfl⟩
abbrev main_while0b_v71 : Ref sig .tc := ⟨.hbm, 86, rfl⟩
abbrev main_while0b_v72 : Ref sig .tc := ⟨.hbm, 87, rfl⟩
abbrev main_while0b_v73 : Ref sig .tc := ⟨.hbm, 88, rfl⟩
abbrev main_while0b_v74 : Ref sig .tc := ⟨.hbm, 89, rfl⟩
abbrev main_while0b_v75 : Ref sig .tc := ⟨.hbm, 90, rfl⟩
abbrev main_while0b_v76 : Ref sig .tc := ⟨.hbm, 91, rfl⟩
abbrev main_while0b_cst_26 : Ref sig .tc := ⟨.hbm, 92, rfl⟩
abbrev main_while0b_v77 : Ref sig .tc := ⟨.hbm, 93, rfl⟩
abbrev main_while0b_v78 : Ref sig .tc := ⟨.hbm, 94, rfl⟩
abbrev main_while0b_cst_27 : Ref sig .tc := ⟨.hbm, 95, rfl⟩
abbrev main_while0b_v79 : Ref sig .tc := ⟨.hbm, 96, rfl⟩
abbrev main_while0b_v80 : Ref sig .tc := ⟨.hbm, 97, rfl⟩
abbrev main_while0b_v81 : Ref sig .tc := ⟨.hbm, 98, rfl⟩
abbrev main_while0b_v82 : Ref sig .tc := ⟨.hbm, 99, rfl⟩
abbrev main_while0b_v83 : Ref sig .tc := ⟨.hbm, 100, rfl⟩
abbrev main_while0b_v84 : Ref sig .tc := ⟨.hbm, 101, rfl⟩
abbrev main_while0b_v85 : Ref sig .tc := ⟨.hbm, 102, rfl⟩
abbrev main_while0b_call4_v0 : Ref sig .tc := ⟨.hbm, 103, rfl⟩
abbrev main_while0b_v86 : Ref sig .tc := ⟨.hbm, 104, rfl⟩
abbrev main_while0b_call5_v0 : Ref sig .tc := ⟨.hbm, 105, rfl⟩
abbrev main_while0b_v87 : Ref sig .tc := ⟨.hbm, 106, rfl⟩
abbrev main_while0b_cst_28 : Ref sig .tc := ⟨.hbm, 107, rfl⟩
abbrev main_while0b_v88 : Ref sig .tc := ⟨.hbm, 108, rfl⟩
abbrev main_while0b_call6_v0 : Ref sig .tc := ⟨.hbm, 109, rfl⟩
abbrev main_while0b_v89 : Ref sig .tc := ⟨.hbm, 110, rfl⟩
abbrev main_while0b_call7_v0 : Ref sig .tc := ⟨.hbm, 111, rfl⟩
abbrev main_while0b_call7_c : Ref sig .tc := ⟨.hbm, 112, rfl⟩
abbrev main_while0b_call7_c_0 : Ref sig .tc := ⟨.hbm, 113, rfl⟩
abbrev main_while0b_v90 : Ref sig .tc := ⟨.hbm, 114, rfl⟩
abbrev main_while0b_c_29 : Ref sig .tc := ⟨.hbm, 115, rfl⟩
abbrev main_while0b_v91 : Ref sig .tc := ⟨.hbm, 116, rfl⟩
abbrev main_v25 : Ref sig .tc := ⟨.hbm, 117, rfl⟩
abbrev main_c_7 : Ref sig .tc := ⟨.hbm, 118, rfl⟩
abbrev main_v26 : Ref sig .tc := ⟨.hbm, 119, rfl⟩
abbrev main_v27 : Ref sig .tc := ⟨.hbm, 120, rfl⟩
abbrev main_c_8 : Ref sig .tc := ⟨.hbm, 121, rfl⟩
abbrev main_v28 : Ref sig .tc := ⟨.hbm, 122, rfl⟩
abbrev main_v29 : Ref sig .tc := ⟨.hbm, 123, rfl⟩
abbrev main_v30 : Ref sig .tc := ⟨.hbm, 124, rfl⟩
abbrev main_v31 : Ref sig .tc := ⟨.hbm, 125, rfl⟩
abbrev main_v32 : Ref sig .tc := ⟨.hbm, 126, rfl⟩
abbrev main_c_9 : Ref sig .tc := ⟨.hbm, 127, rfl⟩
abbrev main_v33 : Ref sig .tc := ⟨.hbm, 128, rfl⟩
abbrev main_v34 : Ref sig .tc := ⟨.hbm, 129, rfl⟩
abbrev main_c_10 : Ref sig .tc := ⟨.hbm, 130, rfl⟩
abbrev main_v35 : Ref sig .tc := ⟨.hbm, 131, rfl⟩
abbrev main_v36 : Ref sig .tc := ⟨.hbm, 132, rfl⟩
abbrev main_v37 : Ref sig .tc := ⟨.hbm, 133, rfl⟩
abbrev main_v38 : Ref sig .tc := ⟨.hbm, 134, rfl⟩
abbrev main_v39 : Ref sig .tc := ⟨.hbm, 135, rfl⟩
abbrev main_c_11 : Ref sig .tc := ⟨.hbm, 136, rfl⟩
abbrev main_v40 : Ref sig .tc := ⟨.hbm, 137, rfl⟩
abbrev main_v41 : Ref sig .tc := ⟨.hbm, 138, rfl⟩
abbrev main_c_12 : Ref sig .tc := ⟨.hbm, 139, rfl⟩
abbrev main_v42 : Ref sig .tc := ⟨.hbm, 140, rfl⟩
abbrev main_v43 : Ref sig .tc := ⟨.hbm, 141, rfl⟩
abbrev main_v44 : Ref sig .tc := ⟨.hbm, 142, rfl⟩
abbrev main_v45 : Ref sig .tc := ⟨.hbm, 143, rfl⟩
abbrev main_v46 : Ref sig .tc := ⟨.hbm, 144, rfl⟩

abbrev nD : Nat := 1
abbrev τ : Topo := Topo.v7x

variable {F : FTy → Type} [FloatOps F]

abbrev main_while0_count : Scf.Loop 32 := ⟨0#32, 2048#32, 1#32⟩
-- ==== Proof.Words.lean ====
/-
  The kernel's loop bounds and offsets as numbers: for a count `n` of active steps of at most 128, the condition that the
  program assumes of `n` holds, the time loop has `⌈n/8⌉` trips and its remainder none, and step `r` of trip `k` addresses
  row `8 k + r`.
-/
module

public import proofs.«01_k».proof.Proof.Gen.KernelIdeal

@[expose] public section

set_option maxRecDepth 65536

namespace Cert.Proof.LK

open Cert.KernelIdeal Cert.KernelIdeal.Gen
open Idealize.ShloMosaic

/-- A word of at most 128 is one of 129. -/
theorem word_of_le {P : BitVec 32 → Prop} (h : ∀ n : Fin 129, P (BitVec.ofNat 32 n.val)) {v : BitVec 32} (hv : v.toNat ≤ 128) : P v := by
  have := h ⟨v.toNat, by omega⟩
  rwa [BitVec.ofNat_toNat, BitVec.setWidth_eq] at this

/-- The program's assumption holds of every count of at most 128. -/
theorem chk_of_le {v : BitVec 32} (hv : v.toNat ≤ 128) : k0_chk1 v :=
  word_of_le (P := k0_chk1) (by decide +kernel) hv

/-- The time loop runs over the groups of eight steps that hold an active one. -/
theorem trips1 {v : BitVec 32} (hv : v.toNat ≤ 128) : (k0_t1_loop v).trips = (v.toNat + 7) / 8 :=
  word_of_le (P := fun v => (k0_t1_loop v).trips = (v.toNat + 7) / 8) (by decide +kernel) hv

/-- The remainder loop has no trip. -/
theorem trips2 {v : BitVec 32} (hv : v.toNat ≤ 128) : (k0_t2_loop v).trips = 0 :=
  word_of_le (P := fun v => (k0_t2_loop v).trips = 0) (by decide +kernel) hv

/-- The chunk is run if some step is active. -/
theorem cond3_iff {v : BitVec 32} (hv : v.toNat ≤ 128) : k0_cond3 v = 1#1 ↔ 0 < v.toNat :=
  word_of_le (P := fun v => k0_cond3 v = 1#1 ↔ 0 < v.toNat) (by decide +kernel) hv

theorem off1_eq {v : BitVec 32} (hv : v.toNat ≤ 128) (k : Fin (k0_t1_loop v).trips) (r : Fin 8) :
    k0_off1 v k (BitVec.ofNat 32 r.val) = ![8 * k.val + r.val, 0, 0] :=
  word_of_le (P := fun v => ∀ (k : Fin (k0_t1_loop v).trips) (r : Fin 8), k0_off1 v k (BitVec.ofNat 32 r.val) = ![8 * k.val + r.val, 0, 0])
    (by decide +kernel) hv k r

theorem off2_eq {v : BitVec 32} (hv : v.toNat ≤ 128) (k : Fin (k0_t1_loop v).trips) (r : Fin 8) :
    k0_off2 v k (BitVec.ofNat 32 r.val) = ![8 * k.val + r.val, 0, 0] :=
  word_of_le (P := fun v => ∀ (k : Fin (k0_t1_loop v).trips) (r : Fin 8), k0_off2 v k (BitVec.ofNat 32 r.val) = ![8 * k.val + r.val, 0, 0])
    (by decide +kernel) hv k r

theorem off3_eq {v : BitVec 32} (hv : v.toNat ≤ 128) (k : Fin (k0_t1_loop v).trips) (r : Fin 8) :
    k0_off3 v k (BitVec.ofNat 32 r.val) = ![0, 8 * k.val + r.val, 0] :=
  word_of_le (P := fun v => ∀ (k : Fin (k0_t1_loop v).trips) (r : Fin 8), k0_off3 v k (BitVec.ofNat 32 r.val) = ![0, 8 * k.val + r.val, 0])
    (by decide +kernel) hv k r

end Cert.Proof.LK

end
-- ==== Proof.Steps.lean ====
/-
  What the kernel's time loop computes. One trip makes eight LSTM steps, which the program cuts into parts at arbitrary
  places; here each step is the same function of the state and of the rows that it reads, and the loop the recursion
  over the steps. The rows that a trip stores are the steps' outputs, each in its own place.
-/
module

public import proofs.«01_k».proof.Proof.Gen.KernelIdeal.Frame
public import proofs.«01_k».proof.Proof.Gen.KernelIdeal.Loops
public import proofs.«01_k».proof.Proof.Words
public import Idealize.ShloMosaic.Lib.WritesUnit
public import Idealize.ShloMosaic.Lib.VecWindow
public import Idealize.ShloMosaic.Lib.Pointwise.Index

@[expose] public section

set_option maxRecDepth 65536

noncomputable section

namespace Cert.Proof.LK

open Cert.KernelIdeal Cert.KernelIdeal.Gen
open Idealize.ShloMosaic Idealize.ShloMosaic.TcCoe Idealize.ShloMosaic.Tactic

variable {F : FTy → Type} [FloatOps F]

/-- The state that the time loop carries: the hidden and the cell vector of every sequence. -/
abbrev St (F : FTy → Type) := Vec F S16x512 .f32 × Vec F S16x512 .f32

/-- One masked LSTM step on all sequences: the new state, from the bias, the recurrent weights, the step's row of input
    gates and its row of the mask. -/
def cell (b : FVec F S1x2048 .f32) (w : Vec F S512x2048 .bf16) (g : Vec F S1x16x2048 .f32) (mk : Vec F S1x16x1 .f32)
    (s : St F) : St F :=
  (k0_pay12 b s.1 s.2 g w mk, k0_pay13 b s.1 s.2 g w mk)

/-- The row of outputs that the same step stores. -/
def cellOut (b : FVec F S1x2048 .f32) (w : Vec F S512x2048 .bf16) (g : Vec F S1x16x2048 .f32) (mk : Vec F S1x16x1 .f32)
    (s : St F) : Vec F S16x1x512 .f32 :=
  k0_pay14 b s.1 s.2 g w mk

/-- Row `t` of the chunk's input gates. -/
def gRow (G : Vec F S128x16x2048 .f32) (t : ℕ) : Vec F S1x16x2048 .f32 := fun x =>
  G (ix3 (⟨t % 128, Nat.mod_lt _ (by decide)⟩ : Fin 128) (x 1 : Fin 16) (x 2 : Fin 2048))

/-- Row `t` of the chunk's mask. -/
def mRow (M : Vec F S128x16x1 .f32) (t : ℕ) : Vec F S1x16x1 .f32 := fun x =>
  M (ix3 (⟨t % 128, Nat.mod_lt _ (by decide)⟩ : Fin 128) (x 1 : Fin 16) (x 2 : Fin 1))

/-- The state before step `t` of the chunk. -/
def stAt (b : FVec F S1x2048 .f32) (w : Vec F S512x2048 .bf16) (G : Vec F S128x16x2048 .f32) (M : Vec F S128x16x1 .f32)
    (s : St F) : ℕ → St F
  | 0 => s
  | t + 1 => cell b w (gRow G t) (mRow M t) (stAt b w G M s t)

/-- The row that step `t` of the chunk stores. -/
def outAt (b : FVec F S1x2048 .f32) (w : Vec F S512x2048 .bf16) (G : Vec F S128x16x2048 .f32) (M : Vec F S128x16x1 .f32)
    (s : St F) (t : ℕ) : Vec F S16x1x512 .f32 :=
  cellOut b w (gRow G t) (mRow M t) (stAt b w G M s t)

theorem ld_gRow (G : Vec F S128x16x2048 .f32) {off : Fin 3 → ℕ} {t : ℕ} (ht : t < 128) (ho : off = ![t, 0, 0])
    (inb : ∀ a, off a + S1x16x2048.size a ≤ S128x16x2048.size a) :
    View.ld G (Rect.unit (s := S128x16x2048) off S1x16x2048.size inb) = gRow G t := by
  subst ho
  funext x
  refine congrArg G (funext fun a => ?_)
  have h0 : (x 0).val = 0 := by have := (x 0).isLt; simp only [Rect.unit] at this; exact Nat.lt_one_iff.mp this
  fin_cases a
  · exact Fin.ext (by show t + 1 * (x 0).val = t % 128; rw [h0, Nat.mod_eq_of_lt ht]; rfl)
  · exact Fin.ext (by show 0 + 1 * (x 1).val = (x 1).val; omega)
  · exact Fin.ext (by show 0 + 1 * (x 2).val = (x 2).val; omega)

theorem ld_mRow (M : Vec F S128x16x1 .f32) {off : Fin 3 → ℕ} {t : ℕ} (ht : t < 128) (ho : off = ![t, 0, 0])
    (inb : ∀ a, off a + S1x16x1.size a ≤ S128x16x1.size a) :
    View.ld M (Rect.unit (s := S128x16x1) off S1x16x1.size inb) = mRow M t := by
  subst ho
  funext x
  refine congrArg M (funext fun a => ?_)
  have h0 : (x 0).val = 0 := by have := (x 0).isLt; simp only [Rect.unit] at this; exact Nat.lt_one_iff.mp this
  fin_cases a
  · exact Fin.ext (by show t + 1 * (x 0).val = t % 128; rw [h0, Nat.mod_eq_of_lt ht]; rfl)
  · exact Fin.ext (by show 0 + 1 * (x 1).val = (x 1).val; omega)
  · exact Fin.ext (by show 0 + 1 * (x 2).val = (x 2).val; omega)

section Trip

variable (𝒱 : Variants) (c : Dev nD) (bd : Option 𝒱.V) (i : grid0.Coords) (arg1 : Memref sig .tc .vmem S16x128x512 .f32) (harg1 : arg1.IsWhole) (arg2 : Memref sig .tc .vmem S128x16x1 .f32) (harg2 : arg2.IsWhole) (arg3 : Memref sig .tc .vmem S512x2048 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S16x128x512 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S128x16x2048 .f32) (harg9 : arg9.IsWhole) (arg10 : Memref sig .tc .vmem S16x512 .f32) (harg10 : arg10.IsWhole) (arg11 : Memref sig .tc .vmem S16x512 .f32) (harg11 : arg11.IsWhole) (b : FVec F S1x2048 .f32) (v : BitVec 32) (hw : k0_chk1 v) (h3 : k0_cond3 v = 1#1)
  (X2 : BufTy.Contents (Elt F) arg2.view.ty) (X4 : BufTy.Contents (Elt F) arg4.view.ty) (X9 : BufTy.Contents (Elt F) arg9.view.ty)

/-- The row of input gates that step `r` of trip `k` loads. -/
abbrev gLd (k : Fin (k0_t1_loop v).trips) (r : Fin 8) : Vec F S1x16x2048 .f32 :=
  View.readAt (Elt F) arg9.view (Rect.unit (s := S128x16x2048) (k0_off1 v k (BitVec.ofNat 32 r.val)) S1x16x2048.size (k0_off1_inb v hw k h3 r)).toLoadRect X9

/-- The row of the mask that step `r` of trip `k` loads. -/
abbrev mLd (k : Fin (k0_t1_loop v).trips) (r : Fin 8) : Vec F S1x16x1 .f32 :=
  View.readAt (Elt F) arg2.view (Rect.unit (s := S128x16x1) (k0_off2 v k (BitVec.ofNat 32 r.val)) S1x16x1.size (k0_off2_inb v hw k h3 r)).toLoadRect X2

/-- The recurrent weights that each step loads. -/
abbrev wLd : Vec F S512x2048 .bf16 :=
  View.readAt (Elt F) arg4.view (Rect.unit (s := S512x2048) ![0, 0] S512x2048.size inb_S512x2048_S512x2048_0_0).toLoadRect X4

/-- The place of step `r`'s outputs. -/
abbrev oRect (k : Fin (k0_t1_loop v).trips) (r : Fin 8) : Rect S16x128x512 :=
  Rect.unit (s := S16x128x512) (k0_off3 v k (BitVec.ofNat 32 r.val)) S16x1x512.size (k0_off3_inb v hw k h3 r)

/-- The state after step `r` of eight, the rows given. -/
def eight (w : Vec F S512x2048 .bf16) (g : Fin 8 → Vec F S1x16x2048 .f32) (mk : Fin 8 → Vec F S1x16x1 .f32) (s : St F) : Fin 8 → St F
  | 0 => s
  | 1 => cell b w (g 0) (mk 0) s
  | 2 => cell b w (g 1) (mk 1) (cell b w (g 0) (mk 0) s)
  | 3 => cell b w (g 2) (mk 2) (cell b w (g 1) (mk 1) (cell b w (g 0) (mk 0) s))
  | 4 => cell b w (g 3) (mk 3) (cell b w (g 2) (mk 2) (cell b w (g 1) (mk 1) (cell b w (g 0) (mk 0) s)))
  | 5 => cell b w (g 4) (mk 4) (cell b w (g 3) (mk 3) (cell b w (g 2) (mk 2) (cell b w (g 1) (mk 1) (cell b w (g 0) (mk 0) s))))
  | 6 => cell b w (g 5) (mk 5) (cell b w (g 4) (mk 4) (cell b w (g 3) (mk 3) (cell b w (g 2) (mk 2) (cell b w (g 1) (mk 1) (cell b w (g 0) (mk 0) s)))))
  | 7 => cell b w (g 6) (mk 6) (cell b w (g 5) (mk 5) (cell b w (g 4) (mk 4) (cell b w (g 3) (mk 3) (cell b w (g 2) (mk 2) (cell b w (g 1) (mk 1) (cell b w (g 0) (mk 0) s))))))

set_option maxHeartbeats 4000000 in
/-- What a trip yields: eight steps. -/
theorem trip1_R (k : Fin (k0_t1_loop v).trips) (s : St F) :
    tripR_k0_t1 (F := F) 𝒱 c bd i arg1 harg1 arg2 harg2 arg3 harg3 arg4 harg4 arg5 harg5 arg6 harg6 arg7 harg7 arg8 harg8 arg9 harg9 arg10 harg10 arg11 harg11 b v hw h3 X2 X4 X9 k s
      = cell b (wLd arg4 X4) (gLd arg9 v hw h3 X9 k 7) (mLd arg2 v hw h3 X2 k 7)
          (eight b (wLd arg4 X4) (gLd arg9 v hw h3 X9 k) (mLd arg2 v hw h3 X2 k) s 7) := by
  unfold tripR_k0_t1 trip_k0_t1
  rfl

/-- The piece that step `r` of trip `k` stores. -/
abbrev oPiece (k : Fin (k0_t1_loop v).trips) (s : St F) (r : Fin 8) : View.Piece (Elt F) S16x128x512 .f32 :=
  ⟨oRect v hw h3 k r, cellOut b (wLd arg4 X4) (gLd arg9 v hw h3 X9 k r) (mLd arg2 v hw h3 X2 k r)
    (eight b (wLd arg4 X4) (gLd arg9 v hw h3 X9 k) (mLd arg2 v hw h3 X2 k) s r)⟩

set_option maxHeartbeats 4000000 in
/-- What a trip stores: the eight steps' rows, the last in front. -/
theorem trip1_L (k : Fin (k0_t1_loop v).trips) (s : St F) :
    tripL_k0_t1 (F := F) 𝒱 c bd i arg1 harg1 arg2 harg2 arg3 harg3 arg4 harg4 arg5 harg5 arg6 harg6 arg7 harg7 arg8 harg8 arg9 harg9 arg10 harg10 arg11 harg11 b v hw h3 X2 X4 X9 k s
      = [oPiece arg2 arg4 arg9 b v hw h3 X2 X4 X9 k s 7, oPiece arg2 arg4 arg9 b v hw h3 X2 X4 X9 k s 6,
         oPiece arg2 arg4 arg9 b v hw h3 X2 X4 X9 k s 5, oPiece arg2 arg4 arg9 b v hw h3 X2 X4 X9 k s 4,
         oPiece arg2 arg4 arg9 b v hw h3 X2 X4 X9 k s 3, oPiece arg2 arg4 arg9 b v hw h3 X2 X4 X9 k s 2,
         oPiece arg2 arg4 arg9 b v hw h3 X2 X4 X9 k s 1, oPiece arg2 arg4 arg9 b v hw h3 X2 X4 X9 k s 0] := by
  unfold tripL_k0_t1 trip_k0_t1
  rfl

/-- The steps of trip `k` are the chunk's steps from `8 k` on. -/
theorem eight_eq (hv : v.toNat ≤ 128) (k : Fin (k0_t1_loop v).trips) (s : St F) (r : Fin 8) :
    eight b (wLd arg4 X4) (gLd arg9 v hw h3 X9 k) (mLd arg2 v hw h3 X2 k) (stAt b (wLd arg4 X4) (arg9.view.read (Elt F) X9) (arg2.view.read (Elt F) X2) s (8 * k.val)) r
      = stAt b (wLd arg4 X4) (arg9.view.read (Elt F) X9) (arg2.view.read (Elt F) X2) s (8 * k.val + r.val) := by
  have hk : k.val < 16 := lt_of_lt_of_le k.isLt (by rw [trips1 hv]; omega)
  have hg : ∀ r : Fin 8, gLd arg9 v hw h3 X9 k r = gRow (arg9.view.read (Elt F) X9) (8 * k.val + r.val) := fun r =>
    ld_gRow _ (by omega) (off1_eq hv k r) _
  have hm : ∀ r : Fin 8, mLd arg2 v hw h3 X2 k r = mRow (arg2.view.read (Elt F) X2) (8 * k.val + r.val) := fun r =>
    ld_mRow _ (by omega) (off2_eq hv k r) _
  fin_cases r <;> simp only [eight, hg, hm] <;> rfl

/-- Before trip `k` the loop carries the state before step `8 k`. -/
theorem st1_state (hv : v.toNat ≤ 128) (s : St F) : ∀ k ≤ (k0_t1_loop v).trips,
    (st_k0_t1 (F := F) 𝒱 c bd i arg1 harg1 arg2 harg2 arg3 harg3 arg4 harg4 arg5 harg5 arg6 harg6 arg7 harg7 arg8 harg8 arg9 harg9 arg10 harg10 arg11 harg11 b v hw h3 X2 X4 X9 s k).1
      = stAt b (wLd arg4 X4) (arg9.view.read (Elt F) X9) (arg2.view.read (Elt F) X2) s (8 * k)
  | 0, _ => rfl
  | k + 1, hk => by
    have ih := st1_state hv s k (by omega)
    rw [st_k0_t1_succ 𝒱 c bd i arg1 harg1 arg2 harg2 arg3 harg3 arg4 harg4 arg5 harg5 arg6 harg6 arg7 harg7 arg8 harg8 arg9 harg9 arg10 harg10 arg11 harg11 b v hw h3 X2 X4 X9 s ⟨k, hk⟩]
    show tripR_k0_t1 (F := F) 𝒱 c bd i arg1 harg1 arg2 harg2 arg3 harg3 arg4 harg4 arg5 harg5 arg6 harg6 arg7 harg7 arg8 harg8 arg9 harg9 arg10 harg10 arg11 harg11 b v hw h3 X2 X4 X9 ⟨k, hk⟩ _ = _
    rw [ih, trip1_R, eight_eq arg2 arg4 arg9 b v hw h3 X2 X4 X9 hv ⟨k, hk⟩ s 7]
    have hk' : k < 16 := lt_of_lt_of_le hk (by rw [trips1 hv]; omega)
    rw [show gLd arg9 v hw h3 X9 ⟨k, hk⟩ 7 = gRow (arg9.view.read (Elt F) X9) (8 * k + 7) from
        ld_gRow _ (by show 8 * k + 7 < 128; omega) (off1_eq hv ⟨k, hk⟩ 7) _,
      show mLd arg2 v hw h3 X2 ⟨k, hk⟩ 7 = mRow (arg2.view.read (Elt F) X2) (8 * k + 7) from
        ld_mRow _ (by show 8 * k + 7 < 128; omega) (off2_eq hv ⟨k, hk⟩ 7) _]
    rfl

/-- One stored row on top of earlier stores: read in its row, else below it. -/
theorem read_row (f : BufTy.Contents (Elt F) arg6.view.ty) {off : Fin 3 → ℕ} {o : ℕ} (ho : off = ![0, o, 0])
    (inb : ∀ a, off a + S16x1x512.size a ≤ S16x128x512.size a) (x : Vec F S16x1x512 .f32) (L : List (View.Piece (Elt F) S16x128x512 .f32))
    (p : Fin 16) (t : Fin 128) (j : Fin 512) :
    arg6.view.read (Elt F) (arg6.view.writes (Elt F) f (⟨Rect.unit (s := S16x128x512) off S16x1x512.size inb, x⟩ :: L)) (ix3 p t j)
      = if t.val = o then x (ix3 p (0 : Fin 1) j) else arg6.view.read (Elt F) (arg6.view.writes (Elt F) f L) (ix3 p t j) := by
  split
  · next h =>
    exact View.read_writes_cons_unit_of_mem arg6.view f inb x L (ix3 p t j) (ix3 p (0 : Fin 1) j) ho fun a => by
      fin_cases a
      · exact (Nat.zero_add _).symm
      · exact h
      · exact (Nat.zero_add _).symm
  · next h =>
    exact View.read_writes_cons_unit_of_not_mem arg6.view f inb x L (ix3 p t j) ho (1 : Fin 3) (by
      show t.val < o ∨ o + 1 ≤ t.val
      omega)

/-- What the loop's stores leave in the output block: the steps' rows up to the trip, and what was there beyond. -/
theorem st1_read (hv : v.toNat ≤ 128) (s : St F) (f : BufTy.Contents (Elt F) arg6.view.ty) (p : Fin 16) (t : Fin 128) (j : Fin 512) :
    ∀ k ≤ (k0_t1_loop v).trips,
    arg6.view.read (Elt F) (arg6.view.writes (Elt F) f (st_k0_t1 (F := F) 𝒱 c bd i arg1 harg1 arg2 harg2 arg3 harg3 arg4 harg4 arg5 harg5 arg6 harg6 arg7 harg7 arg8 harg8 arg9 harg9 arg10 harg10 arg11 harg11 b v hw h3 X2 X4 X9 s k).2) (ix3 p t j)
      = if t.val < 8 * k then outAt b (wLd arg4 X4) (arg9.view.read (Elt F) X9) (arg2.view.read (Elt F) X2) s t.val (ix3 p (0 : Fin 1) j)
        else arg6.view.read (Elt F) f (ix3 p t j)
  | 0, _ => by rw [if_neg (by omega)]; rfl
  | k + 1, hk => by
    have ih := st1_read hv s f p t j k (by omega)
    have hk' : k < 16 := lt_of_lt_of_le hk (by rw [trips1 hv]; omega)
    have ho : ∀ r : Fin 8, cellOut b (wLd arg4 X4) (gLd arg9 v hw h3 X9 ⟨k, hk⟩ r) (mLd arg2 v hw h3 X2 ⟨k, hk⟩ r)
        (eight b (wLd arg4 X4) (gLd arg9 v hw h3 X9 ⟨k, hk⟩) (mLd arg2 v hw h3 X2 ⟨k, hk⟩) (stAt b (wLd arg4 X4) (arg9.view.read (Elt F) X9) (arg2.view.read (Elt F) X2) s (8 * k)) r)
        = outAt b (wLd arg4 X4) (arg9.view.read (Elt F) X9) (arg2.view.read (Elt F) X2) s (8 * k + r.val) := fun r => by
      rw [eight_eq arg2 arg4 arg9 b v hw h3 X2 X4 X9 hv ⟨k, hk⟩ s r,
        show gLd arg9 v hw h3 X9 ⟨k, hk⟩ r = gRow (arg9.view.read (Elt F) X9) (8 * k + r.val) from
          ld_gRow _ (by show 8 * k + r.val < 128; omega) (off1_eq hv ⟨k, hk⟩ r) _,
        show mLd arg2 v hw h3 X2 ⟨k, hk⟩ r = mRow (arg2.view.read (Elt F) X2) (8 * k + r.val) from
          ld_mRow _ (by show 8 * k + r.val < 128; omega) (off2_eq hv ⟨k, hk⟩ r) _]
      rfl
    rw [st_k0_t1_succ 𝒱 c bd i arg1 harg1 arg2 harg2 arg3 harg3 arg4 harg4 arg5 harg5 arg6 harg6 arg7 harg7 arg8 harg8 arg9 harg9 arg10 harg10 arg11 harg11 b v hw h3 X2 X4 X9 s ⟨k, hk⟩]
    show arg6.view.read (Elt F) (arg6.view.writes (Elt F) f (tripL_k0_t1 (F := F) 𝒱 c bd i arg1 harg1 arg2 harg2 arg3 harg3 arg4 harg4 arg5 harg5 arg6 harg6 arg7 harg7 arg8 harg8 arg9 harg9 arg10 harg10 arg11 harg11 b v hw h3 X2 X4 X9 ⟨k, hk⟩ _ ++ _)) _ = _
    rw [st1_state 𝒱 c bd i arg1 harg1 arg2 harg2 arg3 harg3 arg4 harg4 arg5 harg5 arg6 harg6 arg7 harg7 arg8 harg8 arg9 harg9 arg10 harg10 arg11 harg11 b v hw h3 X2 X4 X9 hv s k (by omega), trip1_L]
    simp only [List.cons_append, List.nil_append]
    rw [read_row arg6 f (off3_eq hv ⟨k, hk⟩ 7), read_row arg6 f (off3_eq hv ⟨k, hk⟩ 6), read_row arg6 f (off3_eq hv ⟨k, hk⟩ 5),
      read_row arg6 f (off3_eq hv ⟨k, hk⟩ 4), read_row arg6 f (off3_eq hv ⟨k, hk⟩ 3), read_row arg6 f (off3_eq hv ⟨k, hk⟩ 2),
      read_row arg6 f (off3_eq hv ⟨k, hk⟩ 1), read_row arg6 f (off3_eq hv ⟨k, hk⟩ 0), ih]
    simp only [ho]
    by_cases h : t.val < 8 * k
    · rw [if_neg (by show ¬ t.val = 8 * k + 7; omega), if_neg (by show ¬ t.val = 8 * k + 6; omega), if_neg (by show ¬ t.val = 8 * k + 5; omega),
        if_neg (by show ¬ t.val = 8 * k + 4; omega), if_neg (by show ¬ t.val = 8 * k + 3; omega), if_neg (by show ¬ t.val = 8 * k + 2; omega),
        if_neg (by show ¬ t.val = 8 * k + 1; omega), if_neg (by show ¬ t.val = 8 * k + 0; omega), if_pos h, if_pos (by omega)]
    · by_cases h8 : t.val < 8 * (k + 1)
      · rw [if_pos h8, if_neg h]
        obtain ⟨r, hr⟩ : ∃ r : Fin 8, t.val = 8 * k + r.val := ⟨⟨t.val - 8 * k, by omega⟩, by show t.val = 8 * k + (t.val - 8 * k); omega⟩
        rw [hr]
        fin_cases r <;> simp
      · rw [if_neg h8, if_neg (by show ¬ t.val = 8 * k + 7; omega), if_neg (by show ¬ t.val = 8 * k + 6; omega), if_neg (by show ¬ t.val = 8 * k + 5; omega),
        if_neg (by show ¬ t.val = 8 * k + 4; omega), if_neg (by show ¬ t.val = 8 * k + 3; omega), if_neg (by show ¬ t.val = 8 * k + 2; omega),
        if_neg (by show ¬ t.val = 8 * k + 1; omega), if_neg (by show ¬ t.val = 8 * k + 0; omega), if_neg h]

end Trip

end Cert.Proof.LK

end

end
-- ==== Proof.Body.lean ====
/-
  What the kernel's body does at one grid point: from the point's blocks and the carried state it leaves the chunk's
  rows in the output block, the state after the chunk in both the carried buffers and the state outputs.
-/
module

public import proofs.«01_k».proof.Proof.Steps
public import Idealize.ShloMosaic.Lib.WholeRead

@[expose] public section

set_option maxRecDepth 65536

noncomputable section

namespace Cert.Proof.LK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The count of active steps of a chunk, as the word that the program computes. -/
abbrev cnt (M : Vec F S128x16x1 .f32) : BitVec 32 := Scalar.fptosi 32 (k0_pay4 M)

/-- The steps that the loop makes: those of the groups of eight that hold an active one. -/
def steps (M : Vec F S128x16x1 .f32) : ℕ := 8 * (((cnt M).toNat + 7) / 8)

/-- The state after a chunk. -/
def chunkSt (x : Vec F S16x128x512 .f32) (M : Vec F S128x16x1 .f32) (wih : Vec F S512x2048 .f32) (whh : Vec F S512x2048 .bf16)
    (b : Vec F S1x2048 .f32) (s : St F) : St F :=
  if 0 < (cnt M).toNat then
    (k0_pay6 (stAt (k0_pay3 b) whh (k0_pay122 x wih) M s (steps M)).1, k0_pay7 (stAt (k0_pay3 b) whh (k0_pay122 x wih) M s (steps M)).2)
  else s

/-- The chunk's block of the outputs. -/
def chunkY (x : Vec F S16x128x512 .f32) (M : Vec F S128x16x1 .f32) (wih : Vec F S512x2048 .f32) (whh : Vec F S512x2048 .bf16)
    (b : Vec F S1x2048 .f32) (s : St F) : Vec F S16x128x512 .f32 := fun q =>
  if (q 1).val < steps M then outAt (k0_pay3 b) whh (k0_pay122 x wih) M s (q 1).val (ix3 (q 0 : Fin 16) (0 : Fin 1) (q 2 : Fin 512))
  else k0_pay5 (F := F) q

/-- The program's first branch is taken: the first grid point. -/
abbrev first (i : grid0.Coords) : Prop :=
  (Scalar.cmpi .ne (Scalar.extui (Scalar.cmpi .eq (BitVec.ofNat 32 (i 0).val) 0#32) : BitVec 32) 0#32) = 1#1

/-- The state that a point starts from: zeros at the first. -/
def startSt (i : grid0.Coords) (s : St F) : St F := if first i then (k0_pay1, k0_pay2) else s

/-- The output block is cleared unless every step is active. -/
theorem clear_iff {v : BitVec 32} (hv : v.toNat ≤ 128) :
    (Scalar.cmpi .ne (Scalar.extui (Scalar.cmpi .slt v 128#32) : BitVec 32) 0#32) = 1#1 ↔ v.toNat < 128 :=
  word_of_le (P := fun v => (Scalar.cmpi .ne (Scalar.extui (Scalar.cmpi .slt v 128#32) : BitVec 32) 0#32) = 1#1 ↔ v.toNat < 128)
    (by decide +kernel) hv

section Ends

variable (c : Dev nD) (i : grid0.Coords) (arg1 : Memref sig .tc .vmem S16x128x512 .f32) (harg1 : arg1.IsWhole) (arg2 : Memref sig .tc .vmem S128x16x1 .f32) (harg2 : arg2.IsWhole) (arg3 : Memref sig .tc .vmem S512x2048 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S16x128x512 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S128x16x2048 .f32) (harg9 : arg9.IsWhole) (arg10 : Memref sig .tc .vmem S16x512 .f32) (harg10 : arg10.IsWhole) (arg11 : Memref sig .tc .vmem S16x512 .f32) (harg11 : arg11.IsWhole)
  (x0 : Vec F S16x128x512 .f32) (x1 : Vec F S128x16x1 .f32) (x2 : Vec F S512x2048 .f32) (x3 : Vec F S512x2048 .bf16) (x4 : Vec F S1x2048 .f32)
  (hw : k0_chk1 (cnt x1)) (h3 : k0_cond3 (cnt x1) = 1#1) (X9 : BufTy.Contents (Elt F) arg9.view.ty) (v54 : BitVec 32) (s s' : St F)

/-- What the time loop yields and stores, at a point's blocks. -/
abbrev res1 :=
  st_k0_t1 (F := F) Variants.none c none i arg1 harg1 arg2 harg2 arg3 harg3 arg4 harg4 arg5 harg5 arg6 harg6 arg7 harg7 arg8 harg8 arg9 harg9 arg10 harg10 arg11 harg11 (k0_pay3 x4) (cnt x1) hw h3 (harg2.unread x1) (harg4.unread x3) X9 s (k0_t1_loop (cnt x1)).trips

/-- The same after the remainder loop. -/
abbrev res2 :=
  st_k0_t2 (F := F) Variants.none c none i arg1 harg1 arg2 harg2 arg3 harg3 arg4 harg4 arg5 harg5 arg6 harg6 arg7 harg7 arg8 harg8 arg9 harg9 arg10 harg10 arg11 harg11 (k0_pay3 x4) (cnt x1) hw h3 v54 (harg2.unread x1) (harg4.unread x3) X9
    ((res1 c i arg1 harg1 arg2 harg2 arg3 harg3 arg4 harg4 arg5 harg5 arg6 harg6 arg7 harg7 arg8 harg8 arg9 harg9 arg10 harg10 arg11 harg11 x1 x3 x4 hw h3 X9 s).1.1, (res1 c i arg1 harg1 arg2 harg2 arg3 harg3 arg4 harg4 arg5 harg5 arg6 harg6 arg7 harg7 arg8 harg8 arg9 harg9 arg10 harg10 arg11 harg11 x1 x3 x4 hw h3 X9 s).1.2) (k0_t2_loop (cnt x1)).trips

theorem wLd_unread : wLd (F := F) arg4 (harg4.unread x3) = x3 :=
  (View.readAt_full arg4.view _ _).trans (harg4.read_unread x3)

theorem res1_state (hn : (cnt x1).toNat ≤ 128) (h9 : arg9.view.read (Elt F) X9 = k0_pay122 x0 x2) :
    (res1 c i arg1 harg1 arg2 harg2 arg3 harg3 arg4 harg4 arg5 harg5 arg6 harg6 arg7 harg7 arg8 harg8 arg9 harg9 arg10 harg10 arg11 harg11 x1 x3 x4 hw h3 X9 s).1 = stAt (k0_pay3 x4) x3 (k0_pay122 x0 x2) x1 s (steps x1) := by
  unfold res1
  rw [st1_state Variants.none c none i arg1 harg1 arg2 harg2 arg3 harg3 arg4 harg4 arg5 harg5 arg6 harg6 arg7 harg7 arg8 harg8 arg9 harg9 arg10 harg10 arg11 harg11 (k0_pay3 x4) (cnt x1) hw h3 _ _ X9 hn s _ le_rfl, wLd_unread, h9, harg2.read_unread, trips1 hn]
  rfl

theorem res2_eq (hn : (cnt x1).toNat ≤ 128) :
    res2 c i arg1 harg1 arg2 harg2 arg3 harg3 arg4 harg4 arg5 harg5 arg6 harg6 arg7 harg7 arg8 harg8 arg9 harg9 arg10 harg10 arg11 harg11 x1 x3 x4 hw h3 X9 v54 s = ((res1 c i arg1 harg1 arg2 harg2 arg3 harg3 arg4 harg4 arg5 harg5 arg6 harg6 arg7 harg7 arg8 harg8 arg9 harg9 arg10 harg10 arg11 harg11 x1 x3 x4 hw h3 X9 s).1, []) := by
  unfold res2
  rw [trips2 hn]
  rfl

/-- The state that the body stores. -/
theorem end_h (hn : (cnt x1).toNat ≤ 128) (h0 : 0 < (cnt x1).toNat) (h9 : arg9.view.read (Elt F) X9 = k0_pay122 x0 x2) (hs : s = s') :
    k0_pay6 (res2 c i arg1 harg1 arg2 harg2 arg3 harg3 arg4 harg4 arg5 harg5 arg6 harg6 arg7 harg7 arg8 harg8 arg9 harg9 arg10 harg10 arg11 harg11 x1 x3 x4 hw h3 X9 v54 s).1.1 = (chunkSt x0 x1 x2 x3 x4 s').1 := by
  subst hs
  rw [res2_eq _ _ _ _ _ _ _ _ _ _ _ _ _ _ _ _ _ _ _ _ _ _ _ _ _ _ _ _ _ _ _ _ hn, chunkSt, if_pos h0, ← res1_state c i arg1 harg1 arg2 harg2 arg3 harg3 arg4 harg4 arg5 harg5 arg6 harg6 arg7 harg7 arg8 harg8 arg9 harg9 arg10 harg10 arg11 harg11 x0 x1 x2 x3 x4 hw h3 X9 s hn h9]

/-- The state that the body stores. -/
theorem end_c (hn : (cnt x1).toNat ≤ 128) (h0 : 0 < (cnt x1).toNat) (h9 : arg9.view.read (Elt F) X9 = k0_pay122 x0 x2) (hs : s = s') :
    k0_pay7 (res2 c i arg1 harg1 arg2 harg2 arg3 harg3 arg4 harg4 arg5 harg5 arg6 harg6 arg7 harg7 arg8 harg8 arg9 harg9 arg10 harg10 arg11 harg11 x1 x3 x4 hw h3 X9 v54 s).1.2 = (chunkSt x0 x1 x2 x3 x4 s').2 := by
  subst hs
  rw [res2_eq _ _ _ _ _ _ _ _ _ _ _ _ _ _ _ _ _ _ _ _ _ _ _ _ _ _ _ _ _ _ _ _ hn, chunkSt, if_pos h0, ← res1_state c i arg1 harg1 arg2 harg2 arg3 harg3 arg4 harg4 arg5 harg5 arg6 harg6 arg7 harg7 arg8 harg8 arg9 harg9 arg10 harg10 arg11 harg11 x0 x1 x2 x3 x4 hw h3 X9 s hn h9]

/-- The rows that the body stores, over what it found or cleared. -/
theorem end_rows (hn : (cnt x1).toNat ≤ 128) (h9 : arg9.view.read (Elt F) X9 = k0_pay122 x0 x2)
    (f : BufTy.Contents (Elt F) arg6.view.ty) (L : List (View.Piece (Elt F) S16x128x512 .f32))
    (hs : s = s') (hb : (cnt x1).toNat < 128 → arg6.view.read (Elt F) (arg6.view.writes (Elt F) f L) = k0_pay5) :
    arg6.view.read (Elt F) (arg6.view.writes (Elt F) f ((res2 c i arg1 harg1 arg2 harg2 arg3 harg3 arg4 harg4 arg5 harg5 arg6 harg6 arg7 harg7 arg8 harg8 arg9 harg9 arg10 harg10 arg11 harg11 x1 x3 x4 hw h3 X9 v54 s).2 ++ ((res1 c i arg1 harg1 arg2 harg2 arg3 harg3 arg4 harg4 arg5 harg5 arg6 harg6 arg7 harg7 arg8 harg8 arg9 harg9 arg10 harg10 arg11 harg11 x1 x3 x4 hw h3 X9 s).2 ++ L)))
      = chunkY x0 x1 x2 x3 x4 s' := by
  subst hs
  rw [res2_eq _ _ _ _ _ _ _ _ _ _ _ _ _ _ _ _ _ _ _ _ _ _ _ _ _ _ _ _ _ _ _ _ hn, List.nil_append, View.writes_append]
  funext q
  obtain ⟨p, t, j, rfl⟩ : ∃ (p : Fin 16) (t : Fin 128) (j : Fin 512), q = ix3 p t j :=
    ⟨q 0, q 1, q 2, funext fun a => by fin_cases a <;> rfl⟩
  rw [st1_read Variants.none c none i arg1 harg1 arg2 harg2 arg3 harg3 arg4 harg4 arg5 harg5 arg6 harg6 arg7 harg7 arg8 harg8 arg9 harg9 arg10 harg10 arg11 harg11 (k0_pay3 x4) (cnt x1) hw h3 _ _ X9 hn s _ p t j _ le_rfl, wLd_unread, h9, harg2.read_unread, trips1 hn]
  unfold chunkY
  show (if t.val < steps x1 then _ else _) = if t.val < steps x1 then _ else _
  split
  · rfl
  · next h =>
    have := t.isLt
    rw [hb (by unfold steps at h; omega)]

/-- The same where every row is stored and nothing was cleared. -/
theorem end_all (hn : (cnt x1).toNat ≤ 128) (h9 : arg9.view.read (Elt F) X9 = k0_pay122 x0 x2) (hs : s = s') (h1 : ¬ (cnt x1).toNat < 128)
    (f : BufTy.Contents (Elt F) arg6.view.ty) :
    arg6.view.read (Elt F) (arg6.view.writes (Elt F) f ((res2 c i arg1 harg1 arg2 harg2 arg3 harg3 arg4 harg4 arg5 harg5 arg6 harg6 arg7 harg7 arg8 harg8 arg9 harg9 arg10 harg10 arg11 harg11 x1 x3 x4 hw h3 X9 v54 s).2 ++ (res1 c i arg1 harg1 arg2 harg2 arg3 harg3 arg4 harg4 arg5 harg5 arg6 harg6 arg7 harg7 arg8 harg8 arg9 harg9 arg10 harg10 arg11 harg11 x1 x3 x4 hw h3 X9 s).2))
      = chunkY x0 x1 x2 x3 x4 s' := by
  rw [← end_rows c i arg1 harg1 arg2 harg2 arg3 harg3 arg4 harg4 arg5 harg5 arg6 harg6 arg7 harg7 arg8 harg8 arg9 harg9 arg10 harg10 arg11 harg11 x0 x1 x2 x3 x4 hw h3 X9 v54 s s' hn h9 f [] hs (fun h => absurd h h1), List.append_nil]

theorem idle_h (h0 : ¬ 0 < (cnt x1).toNat) : s.1 = (chunkSt x0 x1 x2 x3 x4 s).1 := congrArg Prod.fst (if_neg h0).symm
theorem idle_c (h0 : ¬ 0 < (cnt x1).toNat) : s.2 = (chunkSt x0 x1 x2 x3 x4 s).2 := congrArg Prod.snd (if_neg h0).symm

theorem idle_rows (h0 : ¬ 0 < (cnt x1).toNat) : k0_pay5 (F := F) = chunkY x0 x1 x2 x3 x4 s := by
  funext q
  unfold chunkY steps
  rw [if_neg (by omega)]

end Ends

/-- The body at a point. -/
def BodyAt (c : Dev nD) (i : grid0.Coords) (arg1 : Memref sig .tc .vmem S16x128x512 .f32) (harg1 : arg1.IsWhole) (arg2 : Memref sig .tc .vmem S128x16x1 .f32) (harg2 : arg2.IsWhole) (arg3 : Memref sig .tc .vmem S512x2048 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S16x128x512 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S128x16x2048 .f32) (harg9 : arg9.IsWhole) (arg10 : Memref sig .tc .vmem S16x512 .f32) (harg10 : arg10.IsWhole) (arg11 : Memref sig .tc .vmem S16x512 .f32) (harg11 : arg11.IsWhole)
    (x0 : Vec F S16x128x512 .f32) (x1 : Vec F S128x16x1 .f32) (x2 : Vec F S512x2048 .f32) (x3 : Vec F S512x2048 .bf16) (x4 : Vec F S1x2048 .f32)
    (s : St F) : Prop :=
  ∀ (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare s.1 ∗ owns (c : Thread nD τ) arg11 fullShare s.2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (chunkY x0 x1 x2 x3 x4 (startSt i s)) ∗ owns (c : Thread nD τ) arg7 fullShare (chunkSt x0 x1 x2 x3 x4 (startSt i s)).1 ∗ owns (c : Thread nD τ) arg8 fullShare (chunkSt x0 x1 x2 x3 x4 (startSt i s)).2 ∗ (∃ d, owns (c : Thread nD τ) arg9 fullShare d) ∗ owns (c : Thread nD τ) arg10 fullShare (chunkSt x0 x1 x2 x3 x4 (startSt i s)).1 ∗ owns (c : Thread nD τ) arg11 fullShare (chunkSt x0 x1 x2 x3 x4 (startSt i s)).2) -∗ K ⟨⟩))
      ⊢ wp frame (wpE (defs₀ (F := F)) Variants.none c none) E (cc0__lstm_chunk_kernel i arg1 harg1 arg2 harg2 arg3 harg3 arg4 harg4 arg5 harg5 arg6 harg6 arg7 harg7 arg8 harg8 arg9 harg9 arg10 harg10 arg11 harg11) K

set_option maxHeartbeats 4000000 in
/-- The body at a point, some of its steps active. -/
theorem body_part (c : Dev nD) (i : grid0.Coords) (arg1 : Memref sig .tc .vmem S16x128x512 .f32) (harg1 : arg1.IsWhole) (arg2 : Memref sig .tc .vmem S128x16x1 .f32) (harg2 : arg2.IsWhole) (arg3 : Memref sig .tc .vmem S512x2048 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S16x128x512 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S128x16x2048 .f32) (harg9 : arg9.IsWhole) (arg10 : Memref sig .tc .vmem S16x512 .f32) (harg10 : arg10.IsWhole) (arg11 : Memref sig .tc .vmem S16x512 .f32) (harg11 : arg11.IsWhole)
    (x0 : Vec F S16x128x512 .f32) (x1 : Vec F S128x16x1 .f32) (x2 : Vec F S512x2048 .f32) (x3 : Vec F S512x2048 .bf16) (x4 : Vec F S1x2048 .f32)
    (s : St F) (hn : (cnt x1).toNat ≤ 128) (h0 : 0 < (cnt x1).toNat) (h1 : (cnt x1).toNat < 128) : BodyAt c i arg1 harg1 arg2 harg2 arg3 harg3 arg4 harg4 arg5 harg5 arg6 harg6 arg7 harg7 arg8 harg8 arg9 harg9 arg10 harg10 arg11 harg11 x0 x1 x2 x3 x4 s := by
  intro E K
  have e1 : View.readAt (Elt F) arg1.view (Rect.unit (s := S16x128x512) ![0, 0, 0] S16x128x512.size inb_S16x128x512_S16x128x512_0_0_0).toLoadRect (harg1.unread x0) = x0 :=
    (View.readAt_full arg1.view _ _).trans (harg1.read_unread x0)
  have e2 : View.readAt (Elt F) arg2.view (Rect.unit (s := S128x16x1) ![0, 0, 0] S128x16x1.size inb_S128x16x1_S128x16x1_0_0_0).toLoadRect (harg2.unread x1) = x1 :=
    (View.readAt_full arg2.view _ _).trans (harg2.read_unread x1)
  have e3 : View.readAt (Elt F) arg3.view (Rect.unit (s := S512x2048) ![0, 0] S512x2048.size inb_S512x2048_S512x2048_0_0).toLoadRect (harg3.unread x2) = x2 :=
    (View.readAt_full arg3.view _ _).trans (harg3.read_unread x2)
  have e4 : View.readAt (Elt F) arg4.view (Rect.unit (s := S512x2048) ![0, 0] S512x2048.size inb_S512x2048_S512x2048_0_0).toLoadRect (harg4.unread x3) = x3 :=
    (View.readAt_full arg4.view _ _).trans (harg4.read_unread x3)
  have e5 : View.readAt (Elt F) arg5.view (Rect.unit (s := S1x2048) ![0, 0] S1x2048.size inb_S1x2048_S1x2048_0_0).toLoadRect (harg5.unread x4) = x4 :=
    (View.readAt_full arg5.view _ _).trans (harg5.read_unread x4)
  have e10 : View.readAt (Elt F) arg10.view (Rect.unit (s := S16x512) ![0, 0] S16x512.size inb_S16x512_S16x512_0_0).toLoadRect (harg10.unread s.1) = s.1 :=
    (View.readAt_full arg10.view _ _).trans (harg10.read_unread s.1)
  have e11 : View.readAt (Elt F) arg11.view (Rect.unit (s := S16x512) ![0, 0] S16x512.size inb_S16x512_S16x512_0_0).toLoadRect (harg11.unread s.2) = s.2 :=
    (View.readAt_full arg11.view _ _).trans (harg11.read_unread s.2)
  have g1 : k0_chk1 (Scalar.fptosi 32 (k0_pay4 x1)) := chk_of_le hn
  have g2 := clear_iff (v := Scalar.fptosi 32 (k0_pay4 x1)) hn
  have g3 := cond3_iff (v := Scalar.fptosi 32 (k0_pay4 x1)) hn
  simp only [cc0__lstm_chunk_kernel_eq_skeleton]; unfold cc0__lstm_chunk_kernel_skel
  simp only [k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%fs1, %hs1, HS1⟩, ⟨%fs2, %hs2, HS2⟩, Hk⟩
  obtain rfl := harg1.eq_unread hf0; obtain rfl := harg2.eq_unread hf1; obtain rfl := harg3.eq_unread hf2; obtain rfl := harg4.eq_unread hf3; obtain rfl := harg5.eq_unread hf4
  obtain rfl := harg10.eq_unread hs1; obtain rfl := harg11.eq_unread hs2
  by_cases hf : first i
  all_goals first
    | rw [show startSt i s = (k0_pay1, k0_pay2) from if_pos hf]
    | rw [show startSt i s = s from if_neg hf]
  all_goals replace g3 := g3.2 h0
  all_goals replace g2 := g2.2 h1
  all_goals
    sl_exec (disch := first | sl_exact hf | sl_exact g1 | sl_exact g2 | sl_exact g3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      refine end_rows c i arg1 harg1 arg2 harg2 arg3 harg3 arg4 harg4 arg5 harg5 arg6 harg6 arg7 harg7 arg8 harg8 arg9 harg9 arg10 harg10 arg11 harg11 x0 x1 x2 x3 x4 g1 g3 _ _ _ _ hn ?_ _ _ ?_ ?_
      · exact (View.read_writes_full _ _ _ _ _)
      · first | exact congrArg₂ Prod.mk (View.readCov_full _ _ _ _ _) (View.readCov_full _ _ _ _ _) | exact rfl
      · exact fun _ => (View.read_writes_full _ _ _ _ _)
    isplitl [H6]
    · iexists _; isplitr; swap; · iexact H6
      ipureintro
      refine (View.read_writes_full _ _ _ _ _).trans ?_
      refine (View.readCov_full _ _ _ _ _).trans ?_
      refine end_h c i arg1 harg1 arg2 harg2 arg3 harg3 arg4 harg4 arg5 harg5 arg6 harg6 arg7 harg7 arg8 harg8 arg9 harg9 arg10 harg10 arg11 harg11 x0 x1 x2 x3 x4 g1 g3 _ _ _ _ hn h0 ?_ ?_
      · exact (View.read_writes_full _ _ _ _ _)
      · first | exact congrArg₂ Prod.mk (View.readCov_full _ _ _ _ _) (View.readCov_full _ _ _ _ _) | exact rfl
    isplitl [H7]
    · iexists _; isplitr; swap; · iexact H7
      ipureintro
      refine (View.read_writes_full _ _ _ _ _).trans ?_
      refine (View.readCov_full _ _ _ _ _).trans ?_
      refine end_c c i arg1 harg1 arg2 harg2 arg3 harg3 arg4 harg4 arg5 harg5 arg6 harg6 arg7 harg7 arg8 harg8 arg9 harg9 arg10 harg10 arg11 harg11 x0 x1 x2 x3 x4 g1 g3 _ _ _ _ hn h0 ?_ ?_
      · exact (View.read_writes_full _ _ _ _ _)
      · first | exact congrArg₂ Prod.mk (View.readCov_full _ _ _ _ _) (View.readCov_full _ _ _ _ _) | exact rfl
    isplitl [HS0]
    · iexists _, _; isplitr; swap; · iexact HS0
      ipureintro; rfl
    isplitl [HS1]
    · iexists _; isplitr; swap; · iexact HS1
      ipureintro
      refine (View.read_writes_full _ _ _ _ _).trans ?_
      refine end_h c i arg1 harg1 arg2 harg2 arg3 harg3 arg4 harg4 arg5 harg5 arg6 harg6 arg7 harg7 arg8 harg8 arg9 harg9 arg10 harg10 arg11 harg11 x0 x1 x2 x3 x4 g1 g3 _ _ _ _ hn h0 ?_ ?_
      · exact (View.read_writes_full _ _ _ _ _)
      · first | exact congrArg₂ Prod.mk (View.readCov_full _ _ _ _ _) (View.readCov_full _ _ _ _ _) | exact rfl
    · iexists _; isplitr; swap; · iexact HS2
      ipureintro
      refine (View.read_writes_full _ _ _ _ _).trans ?_
      refine end_c c i arg1 harg1 arg2 harg2 arg3 harg3 arg4 harg4 arg5 harg5 arg6 harg6 arg7 harg7 arg8 harg8 arg9 harg9 arg10 harg10 arg11 harg11 x0 x1 x2 x3 x4 g1 g3 _ _ _ _ hn h0 ?_ ?_
      · exact (View.read_writes_full _ _ _ _ _)
      · first | exact congrArg₂ Prod.mk (View.readCov_full _ _ _ _ _) (View.readCov_full _ _ _ _ _) | exact rfl

set_option maxHeartbeats 4000000 in
/-- The body at a point, all of its steps active. -/
theorem body_whole (c : Dev nD) (i : grid0.Coords) (arg1 : Memref sig .tc .vmem S16x128x512 .f32) (harg1 : arg1.IsWhole) (arg2 : Memref sig .tc .vmem S128x16x1 .f32) (harg2 : arg2.IsWhole) (arg3 : Memref sig .tc .vmem S512x2048 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S16x128x512 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S128x16x2048 .f32) (harg9 : arg9.IsWhole) (arg10 : Memref sig .tc .vmem S16x512 .f32) (harg10 : arg10.IsWhole) (arg11 : Memref sig .tc .vmem S16x512 .f32) (harg11 : arg11.IsWhole)
    (x0 : Vec F S16x128x512 .f32) (x1 : Vec F S128x16x1 .f32) (x2 : Vec F S512x2048 .f32) (x3 : Vec F S512x2048 .bf16) (x4 : Vec F S1x2048 .f32)
    (s : St F) (hn : (cnt x1).toNat ≤ 128) (h0 : 0 < (cnt x1).toNat) (h1 : ¬ (cnt x1).toNat < 128) : BodyAt c i arg1 harg1 arg2 harg2 arg3 harg3 arg4 harg4 arg5 harg5 arg6 harg6 arg7 harg7 arg8 harg8 arg9 harg9 arg10 harg10 arg11 harg11 x0 x1 x2 x3 x4 s := by
  intro E K
  have e1 : View.readAt (Elt F) arg1.view (Rect.unit (s := S16x128x512) ![0, 0, 0] S16x128x512.size inb_S16x128x512_S16x128x512_0_0_0).toLoadRect (harg1.unread x0) = x0 :=
    (View.readAt_full arg1.view _ _).trans (harg1.read_unread x0)
  have e2 : View.readAt (Elt F) arg2.view (Rect.unit (s := S128x16x1) ![0, 0, 0] S128x16x1.size inb_S128x16x1_S128x16x1_0_0_0).toLoadRect (harg2.unread x1) = x1 :=
    (View.readAt_full arg2.view _ _).trans (harg2.read_unread x1)
  have e3 : View.readAt (Elt F) arg3.view (Rect.unit (s := S512x2048) ![0, 0] S512x2048.size inb_S512x2048_S512x2048_0_0).toLoadRect (harg3.unread x2) = x2 :=
    (View.readAt_full arg3.view _ _).trans (harg3.read_unread x2)
  have e4 : View.readAt (Elt F) arg4.view (Rect.unit (s := S512x2048) ![0, 0] S512x2048.size inb_S512x2048_S512x2048_0_0).toLoadRect (harg4.unread x3) = x3 :=
    (View.readAt_full arg4.view _ _).trans (harg4.read_unread x3)
  have e5 : View.readAt (Elt F) arg5.view (Rect.unit (s := S1x2048) ![0, 0] S1x2048.size inb_S1x2048_S1x2048_0_0).toLoadRect (harg5.unread x4) = x4 :=
    (View.readAt_full arg5.view _ _).trans (harg5.read_unread x4)
  have e10 : View.readAt (Elt F) arg10.view (Rect.unit (s := S16x512) ![0, 0] S16x512.size inb_S16x512_S16x512_0_0).toLoadRect (harg10.unread s.1) = s.1 :=
    (View.readAt_full arg10.view _ _).trans (harg10.read_unread s.1)
  have e11 : View.readAt (Elt F) arg11.view (Rect.unit (s := S16x512) ![0, 0] S16x512.size inb_S16x512_S16x512_0_0).toLoadRect (harg11.unread s.2) = s.2 :=
    (View.readAt_full arg11.view _ _).trans (harg11.read_unread s.2)
  have g1 : k0_chk1 (Scalar.fptosi 32 (k0_pay4 x1)) := chk_of_le hn
  have g2 := clear_iff (v := Scalar.fptosi 32 (k0_pay4 x1)) hn
  have g3 := cond3_iff (v := Scalar.fptosi 32 (k0_pay4 x1)) hn
  simp only [cc0__lstm_chunk_kernel_eq_skeleton]; unfold cc0__lstm_chunk_kernel_skel
  simp only [k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%fs1, %hs1, HS1⟩, ⟨%fs2, %hs2, HS2⟩, Hk⟩
  obtain rfl := harg1.eq_unread hf0; obtain rfl := harg2.eq_unread hf1; obtain rfl := harg3.eq_unread hf2; obtain rfl := harg4.eq_unread hf3; obtain rfl := harg5.eq_unread hf4
  obtain rfl := harg10.eq_unread hs1; obtain rfl := harg11.eq_unread hs2
  by_cases hf : first i
  all_goals first
    | rw [show startSt i s = (k0_pay1, k0_pay2) from if_pos hf]
    | rw [show startSt i s = s from if_neg hf]
  all_goals replace g3 := g3.2 h0
  all_goals replace g2 := fun h => h1 (g2.1 h)
  all_goals
    sl_exec (disch := first | sl_exact hf | sl_exact g1 | sl_exact g2 | sl_exact g3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      refine end_all c i arg1 harg1 arg2 harg2 arg3 harg3 arg4 harg4 arg5 harg5 arg6 harg6 arg7 harg7 arg8 harg8 arg9 harg9 arg10 harg10 arg11 harg11 x0 x1 x2 x3 x4 g1 g3 _ _ _ _ hn ?_ ?_ h1 _
      · exact (View.read_writes_full _ _ _ _ _)
      · first | exact congrArg₂ Prod.mk (View.readCov_full _ _ _ _ _) (View.readCov_full _ _ _ _ _) | exact rfl
    isplitl [H6]
    · iexists _; isplitr; swap; · iexact H6
      ipureintro
      refine (View.read_writes_full _ _ _ _ _).trans ?_
      refine (View.readCov_full _ _ _ _ _).trans ?_
      refine end_h c i arg1 harg1 arg2 harg2 arg3 harg3 arg4 harg4 arg5 harg5 arg6 harg6 arg7 harg7 arg8 harg8 arg9 harg9 arg10 harg10 arg11 harg11 x0 x1 x2 x3 x4 g1 g3 _ _ _ _ hn h0 ?_ ?_
      · exact (View.read_writes_full _ _ _ _ _)
      · first | exact congrArg₂ Prod.mk (View.readCov_full _ _ _ _ _) (View.readCov_full _ _ _ _ _) | exact rfl
    isplitl [H7]
    · iexists _; isplitr; swap; · iexact H7
      ipureintro
      refine (View.read_writes_full _ _ _ _ _).trans ?_
      refine (View.readCov_full _ _ _ _ _).trans ?_
      refine end_c c i arg1 harg1 arg2 harg2 arg3 harg3 arg4 harg4 arg5 harg5 arg6 harg6 arg7 harg7 arg8 harg8 arg9 harg9 arg10 harg10 arg11 harg11 x0 x1 x2 x3 x4 g1 g3 _ _ _ _ hn h0 ?_ ?_
      · exact (View.read_writes_full _ _ _ _ _)
      · first | exact congrArg₂ Prod.mk (View.readCov_full _ _ _ _ _) (View.readCov_full _ _ _ _ _) | exact rfl
    isplitl [HS0]
    · iexists _, _; isplitr; swap; · iexact HS0
      ipureintro; rfl
    isplitl [HS1]
    · iexists _; isplitr; swap; · iexact HS1
      ipureintro
      refine (View.read_writes_full _ _ _ _ _).trans ?_
      refine end_h c i arg1 harg1 arg2 harg2 arg3 harg3 arg4 harg4 arg5 harg5 arg6 harg6 arg7 harg7 arg8 harg8 arg9 harg9 arg10 harg10 arg11 harg11 x0 x1 x2 x3 x4 g1 g3 _ _ _ _ hn h0 ?_ ?_
      · exact (View.read_writes_full _ _ _ _ _)
      · first | exact congrArg₂ Prod.mk (View.readCov_full _ _ _ _ _) (View.readCov_full _ _ _ _ _) | exact rfl
    · iexists _; isplitr; swap; · iexact HS2
      ipureintro
      refine (View.read_writes_full _ _ _ _ _).trans ?_
      refine end_c c i arg1 harg1 arg2 harg2 arg3 harg3 arg4 harg4 arg5 harg5 arg6 harg6 arg7 harg7 arg8 harg8 arg9 harg9 arg10 harg10 arg11 harg11 x0 x1 x2 x3 x4 g1 g3 _ _ _ _ hn h0 ?_ ?_
      · exact (View.read_writes_full _ _ _ _ _)
      · first | exact congrArg₂ Prod.mk (View.readCov_full _ _ _ _ _) (View.readCov_full _ _ _ _ _) | exact rfl
set_option maxHeartbeats 4000000 in
/-- The body at a point, none of its steps active. -/
theorem body_none (c : Dev nD) (i : grid0.Coords) (arg1 : Memref sig .tc .vmem S16x128x512 .f32) (harg1 : arg1.IsWhole) (arg2 : Memref sig .tc .vmem S128x16x1 .f32) (harg2 : arg2.IsWhole) (arg3 : Memref sig .tc .vmem S512x2048 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S16x128x512 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S128x16x2048 .f32) (harg9 : arg9.IsWhole) (arg10 : Memref sig .tc .vmem S16x512 .f32) (harg10 : arg10.IsWhole) (arg11 : Memref sig .tc .vmem S16x512 .f32) (harg11 : arg11.IsWhole)
    (x0 : Vec F S16x128x512 .f32) (x1 : Vec F S128x16x1 .f32) (x2 : Vec F S512x2048 .f32) (x3 : Vec F S512x2048 .bf16) (x4 : Vec F S1x2048 .f32)
    (s : St F) (hn : (cnt x1).toNat ≤ 128) (h0 : ¬ 0 < (cnt x1).toNat) (h1 : (cnt x1).toNat < 128) : BodyAt c i arg1 harg1 arg2 harg2 arg3 harg3 arg4 harg4 arg5 harg5 arg6 harg6 arg7 harg7 arg8 harg8 arg9 harg9 arg10 harg10 arg11 harg11 x0 x1 x2 x3 x4 s := by
  intro E K
  have e1 : View.readAt (Elt F) arg1.view (Rect.unit (s := S16x128x512) ![0, 0, 0] S16x128x512.size inb_S16x128x512_S16x128x512_0_0_0).toLoadRect (harg1.unread x0) = x0 :=
    (View.readAt_full arg1.view _ _).trans (harg1.read_unread x0)
  have e2 : View.readAt (Elt F) arg2.view (Rect.unit (s := S128x16x1) ![0, 0, 0] S128x16x1.size inb_S128x16x1_S128x16x1_0_0_0).toLoadRect (harg2.unread x1) = x1 :=
    (View.readAt_full arg2.view _ _).trans (harg2.read_unread x1)
  have e3 : View.readAt (Elt F) arg3.view (Rect.unit (s := S512x2048) ![0, 0] S512x2048.size inb_S512x2048_S512x2048_0_0).toLoadRect (harg3.unread x2) = x2 :=
    (View.readAt_full arg3.view _ _).trans (harg3.read_unread x2)
  have e4 : View.readAt (Elt F) arg4.view (Rect.unit (s := S512x2048) ![0, 0] S512x2048.size inb_S512x2048_S512x2048_0_0).toLoadRect (harg4.unread x3) = x3 :=
    (View.readAt_full arg4.view _ _).trans (harg4.read_unread x3)
  have e5 : View.readAt (Elt F) arg5.view (Rect.unit (s := S1x2048) ![0, 0] S1x2048.size inb_S1x2048_S1x2048_0_0).toLoadRect (harg5.unread x4) = x4 :=
    (View.readAt_full arg5.view _ _).trans (harg5.read_unread x4)
  have e10 : View.readAt (Elt F) arg10.view (Rect.unit (s := S16x512) ![0, 0] S16x512.size inb_S16x512_S16x512_0_0).toLoadRect (harg10.unread s.1) = s.1 :=
    (View.readAt_full arg10.view _ _).trans (harg10.read_unread s.1)
  have e11 : View.readAt (Elt F) arg11.view (Rect.unit (s := S16x512) ![0, 0] S16x512.size inb_S16x512_S16x512_0_0).toLoadRect (harg11.unread s.2) = s.2 :=
    (View.readAt_full arg11.view _ _).trans (harg11.read_unread s.2)
  have g1 : k0_chk1 (Scalar.fptosi 32 (k0_pay4 x1)) := chk_of_le hn
  have g2 := clear_iff (v := Scalar.fptosi 32 (k0_pay4 x1)) hn
  have g3 := cond3_iff (v := Scalar.fptosi 32 (k0_pay4 x1)) hn
  simp only [cc0__lstm_chunk_kernel_eq_skeleton]; unfold cc0__lstm_chunk_kernel_skel
  simp only [k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%fs1, %hs1, HS1⟩, ⟨%fs2, %hs2, HS2⟩, Hk⟩
  obtain rfl := harg1.eq_unread hf0; obtain rfl := harg2.eq_unread hf1; obtain rfl := harg3.eq_unread hf2; obtain rfl := harg4.eq_unread hf3; obtain rfl := harg5.eq_unread hf4
  obtain rfl := harg10.eq_unread hs1; obtain rfl := harg11.eq_unread hs2
  by_cases hf : first i
  all_goals first
    | rw [show startSt i s = (k0_pay1, k0_pay2) from if_pos hf]
    | rw [show startSt i s = s from if_neg hf]
  all_goals replace g3 := fun h => h0 (g3.1 h)
  all_goals replace g2 := g2.2 h1
  all_goals
    sl_exec (disch := first | sl_exact hf | sl_exact g1 | sl_exact g2 | sl_exact g3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      exact (View.read_writes_full _ _ _ _ _).trans (idle_rows x0 x1 x2 x3 x4 _ h0)
    isplitl [H6]
    · iexists _; isplitr; swap; · iexact H6
      ipureintro
      refine (View.read_writes_full _ _ _ _ _).trans ?_
      first
        | exact (View.readCov_full _ _ _ _ _).trans (idle_h x0 x1 x2 x3 x4 (k0_pay1, k0_pay2) h0)
        | exact (idle_h x0 x1 x2 x3 x4 s h0)
    isplitl [H7]
    · iexists _; isplitr; swap; · iexact H7
      ipureintro
      refine (View.read_writes_full _ _ _ _ _).trans ?_
      first
        | exact (View.readCov_full _ _ _ _ _).trans (idle_c x0 x1 x2 x3 x4 (k0_pay1, k0_pay2) h0)
        | exact (idle_c x0 x1 x2 x3 x4 s h0)
    isplitl [HS0]
    · iexists _, _; isplitr; swap; · iexact HS0
      ipureintro; rfl
    isplitl [HS1]
    · iexists _; isplitr; swap; · iexact HS1
      ipureintro
      first
        | exact (harg10.read_unread _).trans (idle_h x0 x1 x2 x3 x4 s h0)
        | exact (View.read_writes_full _ _ _ _ _).trans (idle_h x0 x1 x2 x3 x4 (k0_pay1, k0_pay2) h0)
    · iexists _; isplitr; swap; · iexact HS2
      ipureintro
      first
        | exact (harg11.read_unread _).trans (idle_c x0 x1 x2 x3 x4 s h0)
        | exact (View.read_writes_full _ _ _ _ _).trans (idle_c x0 x1 x2 x3 x4 (k0_pay1, k0_pay2) h0)

/-- The body at a point, whatever its count of active steps. -/
theorem body_at (c : Dev nD) (i : grid0.Coords) (arg1 : Memref sig .tc .vmem S16x128x512 .f32) (harg1 : arg1.IsWhole) (arg2 : Memref sig .tc .vmem S128x16x1 .f32) (harg2 : arg2.IsWhole) (arg3 : Memref sig .tc .vmem S512x2048 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S16x128x512 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S128x16x2048 .f32) (harg9 : arg9.IsWhole) (arg10 : Memref sig .tc .vmem S16x512 .f32) (harg10 : arg10.IsWhole) (arg11 : Memref sig .tc .vmem S16x512 .f32) (harg11 : arg11.IsWhole)
    (x0 : Vec F S16x128x512 .f32) (x1 : Vec F S128x16x1 .f32) (x2 : Vec F S512x2048 .f32) (x3 : Vec F S512x2048 .bf16) (x4 : Vec F S1x2048 .f32)
    (s : St F) (hn : (cnt x1).toNat ≤ 128) : BodyAt c i arg1 harg1 arg2 harg2 arg3 harg3 arg4 harg4 arg5 harg5 arg6 harg6 arg7 harg7 arg8 harg8 arg9 harg9 arg10 harg10 arg11 harg11 x0 x1 x2 x3 x4 s := by
  by_cases h0 : 0 < (cnt x1).toNat
  · by_cases h1 : (cnt x1).toNat < 128
    · exact body_part c i arg1 harg1 arg2 harg2 arg3 harg3 arg4 harg4 arg5 harg5 arg6 harg6 arg7 harg7 arg8 harg8 arg9 harg9 arg10 harg10 arg11 harg11 x0 x1 x2 x3 x4 s hn h0 h1
    · exact body_whole c i arg1 harg1 arg2 harg2 arg3 harg3 arg4 harg4 arg5 harg5 arg6 harg6 arg7 harg7 arg8 harg8 arg9 harg9 arg10 harg10 arg11 harg11 x0 x1 x2 x3 x4 s hn h0 h1
  · exact body_none c i arg1 harg1 arg2 harg2 arg3 harg3 arg4 harg4 arg5 harg5 arg6 harg6 arg7 harg7 arg8 harg8 arg9 harg9 arg10 harg10 arg11 harg11 x0 x1 x2 x3 x4 s hn h0 (by omega)

end Cert.Proof.LK

end
-- ==== Proof.Run.lean ====
/-
  The launch: the body at every grid point, the state carried from chunk to chunk in two buffers, and what the result
  arrays' staging buffers hold after each point. The run terminates, and its final memory is the pipeline's.
-/
module

public import proofs.«01_k».proof.Proof.Body

@[expose] public section

set_option maxRecDepth 16384

noncomputable section

namespace Cert.Proof.LK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch is taken at the first point only. -/
theorem first_iff : ∀ t : Fin cfg0.N, first (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    have e1 : first (grid0.coords t) ↔ t.val % 16 = 0 := by
      simp only [first, e0]
      word_cmp
    rw [e1, Nat.mod_eq_of_lt ht]
   : ∀ t : Fin grid0.N, first (grid0.coords t) ↔ t.val = 0)

abbrev mS0 (t : Fin cfg0.N) : Memref sig .tc .vmem S16x128x512 .f32 := win0_0.stage (cfg0.slots t 0)
abbrev hS0 (t : Fin cfg0.N) : (mS0 t).IsWhole := hstage0_0 ((cfg0.slots t 0).cast nbuf0_0)
abbrev mS1 (t : Fin cfg0.N) : Memref sig .tc .vmem S128x16x1 .f32 := win0_1.stage (cfg0.slots t 1)
abbrev hS1 (t : Fin cfg0.N) : (mS1 t).IsWhole := hstage0_1 ((cfg0.slots t 1).cast nbuf0_1)
abbrev mS2 (t : Fin cfg0.N) : Memref sig .tc .vmem S512x2048 .f32 := win0_2.stage (cfg0.slots t 2)
abbrev hS2 (t : Fin cfg0.N) : (mS2 t).IsWhole := hstage0_2 ((cfg0.slots t 2).cast nbuf0_2)
abbrev mS3 (t : Fin cfg0.N) : Memref sig .tc .vmem S512x2048 .bf16 := win0_3.stage (cfg0.slots t 3)
abbrev hS3 (t : Fin cfg0.N) : (mS3 t).IsWhole := hstage0_3 ((cfg0.slots t 3).cast nbuf0_3)
abbrev mS4 (t : Fin cfg0.N) : Memref sig .tc .vmem S1x2048 .f32 := win0_4.stage (cfg0.slots t 4)
abbrev hS4 (t : Fin cfg0.N) : (mS4 t).IsWhole := hstage0_4 ((cfg0.slots t 4).cast nbuf0_4)
abbrev mS5 (t : Fin cfg0.N) : Memref sig .tc .vmem S16x128x512 .f32 := win0_5.stage (cfg0.slots t 5)
abbrev hS5 (t : Fin cfg0.N) : (mS5 t).IsWhole := hstage0_5 ((cfg0.slots t 5).cast nbuf0_5)
abbrev mS6 (t : Fin cfg0.N) : Memref sig .tc .vmem S16x512 .f32 := win0_6.stage (cfg0.slots t 6)
abbrev hS6 (t : Fin cfg0.N) : (mS6 t).IsWhole := hstage0_6 ((cfg0.slots t 6).cast nbuf0_6)
abbrev mS7 (t : Fin cfg0.N) : Memref sig .tc .vmem S16x512 .f32 := win0_7.stage (cfg0.slots t 7)
abbrev hS7 (t : Fin cfg0.N) : (mS7 t).IsWhole := hstage0_7 ((cfg0.slots t 7).cast nbuf0_7)

abbrev sc0 : Memref sig .tc .vmem S128x16x2048 .f32 := Memref.whole cc0_scratch0
abbrev sc1 : Memref sig .tc .vmem S16x512 .f32 := Memref.whole cc0_scratch1
abbrev sc2 : Memref sig .tc .vmem S16x512 .f32 := Memref.whole cc0_scratch2

/-- The launch's invariant with the scratch buffers as memrefs. -/
theorem inv_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

variable (m : (ℓ : Loc nD τ sig) → Buf (Elt F) ℓ) (ρ : Dev nD → PrngReg)

/-- Grid point `n`. -/
abbrev pt (n : ℕ) : Fin cfg0.N := ⟨n % 16, lt_of_lt_of_eq (Nat.mod_lt _ (by decide)) N_0.symm⟩

theorem pt_val (t : Fin cfg0.N) : pt t.val = t := Fin.ext (Nat.mod_eq_of_lt (lt_of_lt_of_eq t.isLt N_0))

/-- The blocks at a point. -/
abbrev bX (c : Dev nD) (t : Fin cfg0.N) : Vec F S16x128x512 .f32 := iblk m c 0 t
abbrev bM (c : Dev nD) (t : Fin cfg0.N) : Vec F S128x16x1 .f32 := iblk m c 1 t
abbrev bWi (c : Dev nD) (t : Fin cfg0.N) : Vec F S512x2048 .f32 := iblk m c 2 t
abbrev bWh (c : Dev nD) (t : Fin cfg0.N) : Vec F S512x2048 .bf16 := iblk m c 3 t
abbrev bB (c : Dev nD) (t : Fin cfg0.N) : Vec F S1x2048 .f32 := iblk m c 4 t

/-- The state before point `n`. -/
def stN (c : Dev nD) : ℕ → St F
  | 0 => (k0_pay1, k0_pay2)
  | n + 1 => chunkSt (bX m c (pt n)) (bM m c (pt n)) (bWi m c (pt n)) (bWh m c (pt n)) (bB m c (pt n)) (stN c n)

/-- The rows that point `t` leaves. -/
def yN (c : Dev nD) (t : Fin cfg0.N) : Vec F S16x128x512 .f32 :=
  chunkY (bX m c t) (bM m c t) (bWi m c t) (bWh m c t) (bB m c t) (stN m c t.val)

theorem stN_succ (c : Dev nD) (t : Fin cfg0.N) :
    stN m c (t.val + 1) = chunkSt (bX m c t) (bM m c t) (bWi m c t) (bWh m c t) (bB m c t) (stN m c t.val) := by
  show chunkSt (bX m c (pt t.val)) (bM m c (pt t.val)) (bWi m c (pt t.val)) (bWh m c (pt t.val)) (bB m c (pt t.val)) (stN m c t.val) = _
  rw [pt_val]

/-- The count of active steps fits at every point: what the input has to satisfy. -/
abbrev CountOk : Prop := ∀ (c : Dev nD) (t : Fin cfg0.N), (cnt (bM m c t)).toNat ≤ 128

/-- The invariant between points: the carried buffers hold the state. -/
def inv (c : Dev nD) : (n : ℕ) → n ≤ cfg0.N → sProp 𝕄
  | 0, _ => Pipeline.ΦA spec0 c
  | n + 1, _ => iprop(iprop((∃ d, owns (c : Thread nD τ) sc0 fullShare d) ∗ owns (c : Thread nD τ) sc1 fullShare (stN m c (n + 1)).1 ∗ owns (c : Thread nD τ) sc2 fullShare (stN m c (n + 1)).2) ∗ (∃ r, prngReg c r))

theorem inv_zero (c : Dev nD) (n : ℕ) (h : n ≤ cfg0.N) (hz : n = 0) : inv m c n h = Pipeline.ΦA spec0 c := by
  subst hz; rfl

theorem inv_pos (c : Dev nD) (n : ℕ) (h : n ≤ cfg0.N) (hz : n ≠ 0) :
    inv m c n h = iprop(iprop((∃ d, owns (c : Thread nD τ) sc0 fullShare d) ∗ owns (c : Thread nD τ) sc1 fullShare (stN m c n).1 ∗ owns (c : Thread nD τ) sc2 fullShare (stN m c n).2) ∗ (∃ r, prngReg c r)) := by
  cases n with
  | zero => exact absurd rfl hz
  | succ n => rfl

/-- The proof data of the launch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yN m c t
    | ⟨6, _⟩ => (stN m c (t.val + 1)).1
    | ⟨7, _⟩ => (stN m c (t.val + 1)).2
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = yN m c t := by dsimp only [dats]
theorem after6 (c : Dev nD) (t : Fin cfg0.N) : (dats m 0 c).after 6 t = (stN m c (t.val + 1)).1 := by dsimp only [dats]
theorem after7 (c : Dev nD) (t : Fin cfg0.N) : (dats m 0 c).after 7 t = (stN m c (t.val + 1)).2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (mS0 t) fullShare ((dats m 0 c).before 0 t d))
    ∗ (∃ d, owns (c : Thread nD τ) (mS1 t) fullShare ((dats m 0 c).before 1 t d))
    ∗ (∃ d, owns (c : Thread nD τ) (mS2 t) fullShare ((dats m 0 c).before 2 t d))
    ∗ (∃ d, owns (c : Thread nD τ) (mS3 t) fullShare ((dats m 0 c).before 3 t d))
    ∗ (∃ d, owns (c : Thread nD τ) (mS4 t) fullShare ((dats m 0 c).before 4 t d))
    ∗ (∃ d, owns (c : Thread nD τ) (mS5 t) fullShare ((dats m 0 c).before 5 t d))
    ∗ (∃ d, owns (c : Thread nD τ) (mS6 t) fullShare ((dats m 0 c).before 6 t d))
    ∗ (∃ d, owns (c : Thread nD τ) (mS7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (mS0 t) fullShare ((dats m 0 c).after 0 t)
    ∗ owns (c : Thread nD τ) (mS1 t) fullShare ((dats m 0 c).after 1 t)
    ∗ owns (c : Thread nD τ) (mS2 t) fullShare ((dats m 0 c).after 2 t)
    ∗ owns (c : Thread nD τ) (mS3 t) fullShare ((dats m 0 c).after 3 t)
    ∗ owns (c : Thread nD τ) (mS4 t) fullShare ((dats m 0 c).after 4 t)
    ∗ owns (c : Thread nD τ) (mS5 t) fullShare ((dats m 0 c).after 5 t)
    ∗ owns (c : Thread nD τ) (mS6 t) fullShare ((dats m 0 c).after 6 t)
    ∗ owns (c : Thread nD τ) (mS7 t) fullShare ((dats m 0 c).after 7 t))

set_option maxHeartbeats 8000000 in
/-- The body at any point takes the carried state to the next. -/
theorem point_ok (hn : CountOk m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    after0, after1, after2, after3, after4, after5, after6, after7]
  rw [show (dats m 0 c).Φ t.succ = inv m c (t.val + 1) t.isLt from rfl, inv_pos m c _ _ (Nat.succ_ne_zero _)]
  have hb := fun s : St F => body_at c (grid0.coords t) (mS0 t) (hS0 t) (mS1 t) (hS1 t) (mS2 t) (hS2 t) (mS3 t) (hS3 t) (mS4 t) (hS4 t) (mS5 t) (hS5 t) (mS6 t) (hS6 t) (mS7 t) (hS7 t) sc0 (Memref.isWhole_whole _) sc1 (Memref.isWhole_whole _) sc2 (Memref.isWhole_whole _) (bX m c t) (bM m c t) (bWi m c t) (bWh m c t) (bB m c t) s (hn c t) Set.univ
  unfold yN
  rw [stN_succ]
  by_cases hz : t.val = 0
  · rw [inv_castSucc m c t, inv_zero m c _ _ hz, inv_eq]
    have hs : ∀ s, startSt (F := F) (grid0.coords t) s = stN m c t.val := fun s => by
      rw [hz]; exact if_pos ((first_iff t).2 hz)
    simp only [hs] at hb
    iintro ⟨⟨⟨HS0, ⟨%e1, HS1⟩, ⟨%e2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (hb (e1, e2) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [inv_castSucc m c t, inv_pos m c _ _ hz]
    have hs : ∀ s, startSt (F := F) (grid0.coords t) s = s := fun s => if_neg (fun h => hz ((first_iff t).1 h))
    simp only [hs] at hb
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (hb (stN m c t.val) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem row_eq (t : Fin cfg0.N) :
    defs₀ (F := F) .tc cfg0.body (cfg0.bodyArgs t (cfg0.slots t)) = bodyAt0 t := by
  unfold defs₀; rw [Defs.onTc_tc]

theorem obligation (hn : CountOk m) (c : Dev nD) : BodyObligation (dats (F := F) m 0 c) (defs₀ (F := F)) Variants.none () Set.univ := fun t => by
  rw [bigSep_W0, bigSep_W0, row_eq]
  exact triple_restated (point_ok m hn c t) rfl .rfl fun _ => .rfl

theorem inv_in (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem inv_out (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 16 := N_0; omega), inv_eq]
  iintro ⟨⟨HS0, HS1, HS2⟩, Hg⟩
  isplitl [HS0 HS1 HS2]
  · isplitl [HS0]
    · iexact HS0
    isplitl [HS1]
    · iexists _; iexact HS1
    iexists _; iexact HS2
  iexact Hg

set_option backward.isDefEq.respectTransparency.types false in
/-- The launch, where the counts fit: it ends, with the pipeline's arrays in memory and every semaphore counter at zero. -/
theorem launch (hn : CountOk m) : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m hn c).loose) (hshare := fun c => (dats m 0 c).share_full fun _ => rfl)
    (howed := fun _ _ => rfl) (V := V m) (hmain := hmain m Variants.none) (hA := A_eq m) (hin := inv_in m) (hout := inv_out m)

end Cert.Proof.LK

end
-- ==== Proof.Count.lean ====
/-
  How many steps of a chunk are active. A block of mask values that are words of 0 and 1 has, row by row, at most 128 ones,
  so the greatest row count, read as an integer, is at most 128 — on words (`count_bits`) and over the reals (`count_ideal`).
-/
module

public import proofs.«01_k».proof.Proof.Steps
public import Idealize.ShloMosaic.Lib.NatWords
public import Idealize.ShloMosaic.Lib.NatWordsOrder
public import Idealize.ShloMosaic.PureOps.Reduce
public import Idealize.ShloMosaic.PureOps.BitExact.Laws
public import Idealize.ShloMosaic.PureOps.Ideal.Laws
public import Idealize.ShloMosaic.Lib.Pointwise.Reshape

@[expose] public section

set_option maxRecDepth 65536
set_option maxHeartbeats 1000000

open Idealize Idealize.ShloMosaic
open scoped BigOperators

namespace Cert.Proof.LK

open Cert.KernelIdeal Cert.KernelIdeal.Gen

noncomputable section

/-- The ones of a row of a chunk's mask. -/
def ones (n : S128x16x1.Idx → ℕ) (j : S16x1.Idx) : ℕ :=
  (Finset.univ.filter fun i => reduces_S128x16x1_S16x1.drop i = j).sum n

theorem ones_eq (n : S128x16x1.Idx → ℕ) (j : S16x1.Idx) :
    ones n j = ∑ k : Fin 128, n (reduces_S128x16x1_S16x1.lift j k) :=
  reduces_S128x16x1_S16x1.sum_filter_drop_single n j

theorem ones_le (n : S128x16x1.Idx → ℕ) (hn : ∀ i, n i ≤ 1) (j : S16x1.Idx) : ones n j ≤ 128 := by
  rw [ones_eq]
  exact (Finset.sum_le_card_nsmul _ _ 1 fun k _ => hn _).trans (by simp)

/-- The same over the reshaped row counts. -/
def ones' (n : S128x16x1.Idx → ℕ) : S1x16x1.Idx → ℕ := shapeCast S1x16x1 (ones n) shapeCasts_S16x1_S1x16x1

theorem ones'_le (n : S128x16x1.Idx → ℕ) (hn : ∀ i, n i ≤ 1) (j : S1x16x1.Idx) : ones' n j ≤ 128 := ones_le n hn _

/-- The greatest count. -/
def most (n : S128x16x1.Idx → ℕ) : ℕ := (Finset.univ : Finset S1x16x1.Idx).fold max 0 (ones' n)

theorem all_drop (j : S1.Idx) : (Finset.univ.filter fun i => reduces_S1x16x1_S1.drop i = j) = Finset.univ :=
  Finset.filter_true_of_mem fun i _ => by
    funext b
    match b with
    | 0 => exact Subsingleton.elim (α := Fin 1) _ _

theorem most_le (n : S128x16x1.Idx → ℕ) (hn : ∀ i, n i ≤ 1) : most n ≤ 128 :=
  Finset.fold_max_le _ |>.2 ⟨Nat.zero_le _, fun i _ => ones'_le n hn i⟩

theorem le_most (n : S128x16x1.Idx → ℕ) (i : S1x16x1.Idx) : ones' n i ≤ most n :=
  Finset.le_fold_max _ |>.2 (.inr ⟨i, Finset.mem_univ _, le_rfl⟩)

/-- The count, its two reductions in the open. -/
theorem cnt_eq {F : FTy → Type} [FloatOps F] (M : Vec F S128x16x1 .f32) : ∃ j, Scalar.fptosi 32 (k0_pay4 M) = Scalar.fptosi 32
    (multiReduction .maximumf [1, 2] S1 (shapeCast S1x16x1
      (multiReduction .add [0] S16x1 M 0x00000000#32 reduces_S128x16x1_S16x1 (.inl rfl) rfl)
      shapeCasts_S16x1_S1x16x1) 0xFF800000#32 reduces_S1x16x1_S1 (.inl rfl) rfl j) := by
  refine ⟨Shape.reshapeEquiv shapeCasts_S1_S1x1x1 fun a => ⟨![0, 0, 0] a, inpos_S1x1x1_p0_0_0 a⟩, ?_⟩
  unfold k0_pay4
  rw [shapeCast_id]
  exact rfl

/-- On words: the count read off a mask of words of 0 and 1. -/
theorem count_bits (M : Vec Bits S128x16x1 .f32) (n : S128x16x1.Idx → ℕ) (hn : ∀ i, n i ≤ 1)
    (hM : ∀ i, M i = Bits.f32OfNat (n i)) : Scalar.fptosi 32 (k0_pay4 M) = BitVec.ofNat 32 (most n) := by
  have h1 : multiReduction (F := Bits) .add [0] S16x1 M 0x00000000#32 reduces_S128x16x1_S16x1 (.inl rfl) rfl
      = fun j => Bits.f32OfNat (ones n j) := by
    funext j
    refine Bits.multiReduction_add_nat (s := S128x16x1) (t := S16x1) [0] _ M j n (fun i _ => ?_) ?_
    · rw [hM]; exact Bits.natOfF32?_f32OfNat _ (lt_of_le_of_lt (hn i) (by decide))
    · exact lt_of_le_of_lt (ones_le n hn j) (by decide)
  have h2 : ∀ j, multiReduction (F := Bits) .maximumf [1, 2] S1 (fun i => Bits.f32OfNat (ones' n i) : FVec Bits S1x16x1 .f32)
      0xFF800000#32 reduces_S1x16x1_S1 (.inl rfl) rfl j = Bits.f32OfNat (most n) := by
    intro j
    refine (multiReduction_maximumf_eq_fold _ _ _ _ _ _).trans ?_
    rw [all_drop]
    exact Bits.fold_maximumf_negativeInfinity_nat _ ⟨fun a => ⟨0, by revert a; decide⟩, Finset.mem_univ _⟩ (ones' n)
      fun i _ => (ones'_le n hn i).trans (by decide)
  obtain ⟨j, hj⟩ := cnt_eq M
  rw [hj, h1]
  refine (congrArg (Scalar.fptosi 32) (h2 j)).trans (Bits.fptosi32_nat _ ?_)
  exact lt_of_le_of_lt (most_le n hn) (by decide)

theorem coe_sum {ι : Type} (s : Finset ι) (f : ι → ℕ) : (((s.sum f : ℕ) : ℝ) : EReal) = ∑ k ∈ s, (((f k : ℕ) : ℝ) : EReal) := by
  induction s using Finset.cons_induction with
  | empty => simp
  | cons a s ha ih => rw [Finset.sum_cons, Finset.sum_cons, ← ih, Nat.cast_add, EReal.coe_add]

/-- Over the reals: the same count. -/
theorem count_ideal (M : Vec Ideal S128x16x1 .f32) (n : S128x16x1.Idx → ℕ) (hn : ∀ i, n i ≤ 1)
    (hM : ∀ i, M i = (((n i : ℕ) : ℝ) : EReal)) : Scalar.fptosi 32 (k0_pay4 M) = BitVec.ofNat 32 (most n) := by
  have h1 : multiReduction (F := Ideal) .add [0] S16x1 M 0x00000000#32 reduces_S128x16x1_S16x1 (.inl rfl) rfl
      = fun j => (((ones n j : ℕ) : ℝ) : EReal) := by
    funext j
    refine (Ideal.multiReduction_add_single _ _ _ _ _ _).trans ?_
    rw [ones_eq]
    simp only [hM]
    exact (coe_sum _ _).symm
  have h2 : ∀ j, multiReduction (F := Ideal) .maximumf [1, 2] S1 (fun i => (((ones' n i : ℕ) : ℝ) : EReal) : FVec Ideal S1x16x1 .f32)
      0xFF800000#32 reduces_S1x16x1_S1 (.inl rfl) rfl j = (((most n : ℕ) : ℝ) : EReal) := by
    intro j
    refine (multiReduction_maximumf_eq_fold _ _ _ _ _ _).trans ?_
    rw [all_drop]
    refine le_antisymm ?_ ?_
    · refine (Finset.fold_max_le _).2 ⟨?_, fun i _ => ?_⟩
      · have hb : (FloatOps.ofBits .f32 0xFF800000#32 : Ideal .f32) = (⊥ : EReal) := by
          show Ideal.ofBits .f32 0xFF800000#32 = ⊥
          simp [Ideal.ofBits, Ideal.ieee]
        rw [hb]; exact bot_le
      · exact EReal.coe_le_coe_iff.2 (Nat.cast_le.2 (le_most n i))
    · have hi : ∃ i, most n = ones' n i := by
        rcases (Bits.fold_max_spec (Finset.univ : Finset S1x16x1.Idx) (ones' n) 0).2.2 with h0 | ⟨k, -, hk⟩
        · refine ⟨fun a => ⟨0, by revert a; decide⟩, ?_⟩
          have h4 := le_most n fun a => ⟨0, by revert a; decide⟩
          unfold most at h4 ⊢
          omega
        · exact ⟨k, hk⟩
      obtain ⟨i, hi⟩ := hi
      rw [hi]
      exact (Finset.le_fold_max _).2 (.inr ⟨i, Finset.mem_univ _, le_rfl⟩)
  obtain ⟨j, hj⟩ := cnt_eq M
  rw [hj, h1]
  refine (congrArg (Scalar.fptosi 32) (h2 j)).trans ?_
  have h3 := most_le n hn
  show BitVec.ofInt 32 (max _ (min _ (if 0 ≤ ((most n : ℕ) : ℝ) then ⌊((most n : ℕ) : ℝ)⌋ else ⌈((most n : ℕ) : ℝ)⌉))) = _
  rw [if_pos (Nat.cast_nonneg _), Int.floor_natCast]
  rw [min_eq_right (by push_cast; omega), max_eq_right (by push_cast; omega)]
  exact BitVec.ofInt_natCast 32 _

end

end Cert.Proof.LK

end
-- ==== Proof.Host.lean ====
/-
  What the launch finds in its input arrays, and what a point's blocks hold of them: the mask's bits as numbers, the bias as a
  row, the recurrent weights in bf16; chunk `t` holds steps `128 t … 128 t + 127`, the weights and the bias are held whole.
-/
module

public import proofs.«01_k».proof.Proof.Count
public import Idealize.ShloMosaic.Lib.Claim
public import Idealize.ShloMosaic.Lib.Pipeline.ValueKit

@[expose] public section

set_option maxRecDepth 65536
set_option maxHeartbeats 1000000

open Idealize Idealize.ShloMosaic Idealize.ShloMosaic.TcCoe

namespace Cert.Proof.LK

open Cert.KernelIdeal Cert.KernelIdeal.Gen Idealize.ShloMosaic.Pipeline

noncomputable section

variable {F : FTy → Type} [FloatOps F]
variable (m : (ℓ : Loc nD τ sig) → Buf (Elt F) ℓ)

/-- The mask as launched. -/
abbrev mask (c : Dev nD) : S16x2048.Idx → BitVec 1 := m ((c : Thread nD τ).loc main_arg1)

theorem V_mask (c : Dev nD) : V m c main_v2 = broadcastInDim S2048x16x1 ![0, 1] bcast_S2048x16_S2048x16x1_0_1
    (uitofp .f32 (transpose S2048x16 [1, 0] (mask m c) transposes_S16x2048_S2048x16_1_0)) := by
  entry_read
  exact rfl

theorem V_bias (c : Dev nD) : V m c main_v3 = shapeCast S1x2048 (m ((c : Thread nD τ).loc main_arg4)) shapeCasts_S2048_S1x2048 := by
  entry_read
  exact rfl

theorem V_whh (c : Dev nD) : V m c main_v4 = truncf .bf16 (m ((c : Thread nD τ).loc main_arg3) : FVec F S512x2048 .f32) bitsLt_bf16_f32 := by
  entry_read
  exact rfl

theorem lt_steps (t : Fin cfg0.N) (r : Fin 128) : 128 * t.val + r.val < 2048 := by
  have h1 : t.val < 16 := t.isLt
  have h2 := r.isLt
  omega

theorem at0 : ∀ t : Fin cfg0.N, win0_0.index t = ![0, t.val, 0] := (by decide +kernel : ∀ t : Fin grid0.N, _)
theorem at1 : ∀ t : Fin cfg0.N, win0_1.index t = ![t.val, 0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)

theorem blk_x (c : Dev nD) (t : Fin cfg0.N) (p : Fin 16) (r : Fin 128) (k : Fin 512) :
    iblk m c 0 t (ix3 p r k) = m ((c : Thread nD τ).loc main_arg0) (ix3 p ⟨128 * t.val + r.val, lt_steps t r⟩ k) := by
  blk_simp [iblk, at0]
  rw [V_main_arg0]
  refine congrArg _ ?_
  blk_ext [at0]

theorem blk_mask (c : Dev nD) (t : Fin cfg0.N) (r : Fin 128) (p : Fin 16) :
    iblk m c 1 t (ix3 r p 0) = V m c main_v2 (ix3 ⟨128 * t.val + r.val, lt_steps t r⟩ p 0) := by
  blk_simp [iblk, at1]
  refine congrArg _ ?_
  blk_ext [at1]

theorem blk_wih (c : Dev nD) (t : Fin cfg0.N) : iblk m c 2 t = m ((c : Thread nD τ).loc main_arg2) := by
  funext q
  blk_simp [iblk, at2]
  rw [V_main_arg2]
  refine congrArg _ ?_
  blk_ext [at2]

theorem blk_whh (c : Dev nD) (t : Fin cfg0.N) : iblk m c 3 t = V m c main_v4 := by
  funext q
  blk_simp [iblk, at3]
  refine congrArg _ ?_
  blk_ext [at3]

theorem blk_bias (c : Dev nD) (t : Fin cfg0.N) : iblk m c 4 t = V m c main_v3 := by
  funext q
  blk_simp [iblk, at4]
  refine congrArg _ ?_
  blk_ext [at4]

/-- A mask entry is the launched bit, read as a number. -/
theorem V_mask_at (c : Dev nD) (t : Fin 2048) (p : Fin 16) :
    V m c main_v2 (ix3 t p 0) = FloatOps.uitofp .f32 (mask m c (ix2 p t)) := by
  rw [V_mask]
  refine congrArg (fun q => FloatOps.uitofp .f32 (mask m c q)) ?_
  funext a
  match a with
  | 0 => exact rfl
  | 1 => exact rfl

theorem blk_mask_at (c : Dev nD) (t : Fin cfg0.N) (r : Fin 128) (p : Fin 16) :
    iblk m c 1 t (ix3 r p 0) = FloatOps.uitofp .f32 (mask m c (ix2 p ⟨128 * t.val + r.val, lt_steps t r⟩)) := by
  rw [blk_mask, V_mask_at]

/-- The bits of a chunk's mask, as numbers. -/
def bits (c : Dev nD) (t : Fin cfg0.N) (i : S128x16x1.Idx) : ℕ := (mask m c (ix2 (i 1) ⟨128 * t.val + (i 0).val, lt_steps t (i 0)⟩)).toNat

theorem bits_le (c : Dev nD) (t : Fin cfg0.N) (i : S128x16x1.Idx) : bits m c t i ≤ 1 :=
  Nat.le_of_lt_succ (mask m c (ix2 (i 1) ⟨128 * t.val + (i 0).val, lt_steps t (i 0)⟩)).isLt

theorem blk_bits (c : Dev nD) (t : Fin cfg0.N) (i : S128x16x1.Idx) :
    iblk m c 1 t i = FloatOps.uitofp .f32 (mask m c (ix2 (i 1) ⟨128 * t.val + (i 0).val, lt_steps t (i 0)⟩)) := by
  have hi : i = ix3 (i 0) (i 1) 0 := by
    funext a
    match a with
    | 0 => exact rfl
    | 1 => exact rfl
    | 2 => exact Subsingleton.elim (α := Fin 1) _ _
  exact (congrArg (iblk m c 1 t) hi).trans (blk_mask_at m c t (i 0) (i 1))

theorem toNat_count {n : S128x16x1.Idx → ℕ} (hn : ∀ i, n i ≤ 1) : (BitVec.ofNat 32 (most n)).toNat = most n :=
  Nat.mod_eq_of_lt (lt_of_le_of_lt (most_le n hn) (by decide))

theorem active_bits (m : (ℓ : Loc nD τ sig) → Buf (Elt Bits) ℓ) (c : Dev nD) (t : Fin cfg0.N) :
    (Scalar.fptosi 32 (k0_pay4 (iblk m c 1 t))).toNat = most (bits m c t) := by
  rw [count_bits (iblk m c 1 t) (bits m c t) (bits_le m c t) fun i => ?_, toNat_count (bits_le m c t)]
  rw [blk_bits]
  show Bits.uitofp32 _ = Bits.uitofp32 _
  unfold Bits.uitofp32 bits
  rw [BitVec.toNat_ofNat, Nat.mod_eq_of_lt]
  exact lt_of_le_of_lt (bits_le m c t i) (by decide)

theorem active_ideal (m : (ℓ : Loc nD τ sig) → Buf (Elt Ideal) ℓ) (c : Dev nD) (t : Fin cfg0.N) :
    (Scalar.fptosi 32 (k0_pay4 (iblk m c 1 t))).toNat = most (bits m c t) := by
  rw [count_ideal (iblk m c 1 t) (bits m c t) (bits_le m c t) fun i => ?_, toNat_count (bits_le m c t)]
  rw [blk_bits]
  exact rfl

end

end Cert.Proof.LK

end
-- ==== Proof.RefFrame.lean ====
/-
  The reference's run keeps what it does not write: its arguments end as launched, and a buffer computed before the loop is
  read back after it.
-/
module

public import proofs.«01_k».proof.Proof.Gen.ReferenceIdeal.Run
public import Idealize.ShloMosaic.Lib.Quiescent

@[expose] public section

set_option maxRecDepth 65536
set_option maxHeartbeats 1000000

open Idealize Idealize.ShloMosaic Idealize.ShloMosaic.TcCoe Idealize.ShloMosaic.StableHlo Idealize.SL.Sem

namespace Cert.Proof.LR

open Cert.ReferenceIdeal Cert.ReferenceIdeal.Gen Cert.ReferenceIdeal.Value

noncomputable section

variable {F : FTy → Type} [FloatOps F]
variable (m : (ℓ : Loc nD τ sig) → Buf (Elt F) ℓ) (ρ : Dev nD → PrngReg)

/-- What the loop writes. -/
abbrev loopW : List (Ref sig .tc) := condOps_W ++ while0Ops0_W ++ while0Ops0_1_W ++ while0Ops0_2_W ++ while0Ops0_3_W
  ++ while0Ops0_4_W ++ while0Ops0_5_W ++ while0Ops0_6_W ++ while0Ops0_7_W ++ while0Ops0_8_W

/-- What is written before the loop. -/
abbrev preW : List (Ref sig .tc) := hostOps0_W ++ hostOps0_1_W ++ hostOps0_2_W ++ hostOps0_3_W

/-- What is written after it. -/
abbrev postW : List (Ref sig .tc) := [main_v25, main_c_7, main_v26, main_v27, main_c_8, main_v28, main_v29, main_v30, main_v31, main_v32,
  main_c_9, main_v33, main_v34, main_c_10, main_v35, main_v36, main_v37, main_v38, main_v39,
  main_c_11, main_v40, main_v41, main_c_12, main_v42, main_v43, main_v44, main_v45, main_v46]

theorem post_writes : (hostOps0_4 : List (HloOp τ sig (Elt F))).Forall fun op => op.writes ⊆ (postW.map (Proc.devRef (τ := τ) .tc)).toFinset :=
  StableHlo.forall_writes_sub_of_map rfl

theorem post_keeps (b : Ref sig .tc) (hb : b ∉ postW) (X : Valuation τ sig (Elt F)) :
    after hostOps0_4 X (Proc.devRef .tc b) = X (Proc.devRef .tc b) :=
  after_of_writes_sub hostOps0_4 X post_writes hb

theorem trip_keeps (b : Ref sig .tc) (hb : b ∉ loopW) (X : Valuation τ sig (Elt F)) :
    afterL bodyI (after condOps X) (Proc.devRef .tc b) = X (Proc.devRef .tc b) := by
  simp only [loopW, List.mem_append, not_or] at hb
  obtain ⟨⟨⟨⟨⟨⟨⟨⟨⟨h0, h1⟩, h2⟩, h3⟩, h4⟩, h5⟩, h6⟩, h7⟩, h8⟩, h9⟩ := hb
  simp only [afterL_cons, afterL_nil]
  rw [after_of_writes_sub while0Ops0_8 _ while0Ops0_8_writes h9, after_of_writes_sub while0Ops0_7 _ while0Ops0_7_writes h8,
    after_of_writes_sub while0Ops0_6 _ while0Ops0_6_writes h7, after_of_writes_sub while0Ops0_5 _ while0Ops0_5_writes h6,
    after_of_writes_sub while0Ops0_4 _ while0Ops0_4_writes h5, after_of_writes_sub while0Ops0_3 _ while0Ops0_3_writes h4,
    after_of_writes_sub while0Ops0_2 _ while0Ops0_2_writes h3, after_of_writes_sub while0Ops0_1 _ while0Ops0_1_writes h2,
    after_of_writes_sub while0Ops0 _ while0Ops0_writes h1, after_of_writes_sub condOps _ condOps_writes h0]

theorem loop_keeps (b : Ref sig .tc) (hb : b ∉ loopW) (c : Dev nD) : ∀ k, atK m k c (Proc.devRef .tc b) = entryContents preI m c (Proc.devRef .tc b)
  | 0 => rfl
  | k + 1 => (trip_keeps b hb (atK m k c)).trans (loop_keeps b hb c k)

theorem cond_loop_keeps (b : Ref sig .tc) (hb : b ∉ loopW) (c : Dev nD) (k : ℕ) :
    after condOps (atK m k c) (Proc.devRef .tc b) = entryContents preI m c (Proc.devRef .tc b) := by
  rw [after_of_writes_sub condOps _ condOps_writes (fun h => hb (by simp only [loopW, List.mem_append]; tauto)), loop_keeps m b hb]

theorem pre_keeps (b : Ref sig .tc) (hb : b ∉ preW) (c : Dev nD) :
    entryContents preI m c (Proc.devRef .tc b) = m ((c.tc : Thread nD τ).loc b) := by
  simp only [preW, List.mem_append, not_or] at hb
  obtain ⟨⟨⟨h0, h1⟩, h2⟩, h3⟩ := hb
  simp only [entryContents, afterL_cons, afterL_nil]
  rw [after_of_writes_sub hostOps0_3 _ hostOps0_3_writes h3, after_of_writes_sub hostOps0_2 _ hostOps0_2_writes h2,
    after_of_writes_sub hostOps0_1 _ hostOps0_1_writes h1, after_of_writes_sub hostOps0 _ hostOps0_writes h0]

/-- A buffer that nothing writes ends as launched. -/
theorem final_keeps (b : Ref sig .tc) (h0 : b ∉ preW) (h1 : b ∉ loopW) (h2 : b ∉ postW) (c : Dev nD) :
    finalContents condOps preI bodyI postI 2048 m c (Proc.devRef .tc b) = m ((c.tc : Thread nD τ).loc b) :=
  (post_keeps b h2 _).trans ((cond_loop_keeps m b h1 c 2048).trans (pre_keeps m b h0 c))

/-- The arguments end as launched. -/
theorem args_kept (c : Dev nD) (r : PUnit × MemSt nD τ sig (Elt F))
    (h : ∀ (c : Dev nD) (b : Ref sig .tc), (Proc.devRef .tc b : DevRef τ sig).isScoped = false →
      r.2.mem ((c.tc : Thread nD τ).loc b) = finalContents condOps preI bodyI postI 2048 m c (Proc.devRef .tc b)) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  have one : ∀ b : Ref sig .tc, (Proc.devRef .tc b : DevRef τ sig).isScoped = false → b ∉ preW → b ∉ loopW → b ∉ postW →
      r.2.mem ((c.tc : Thread nD τ).loc b) = m ((c.tc : Thread nD τ).loc b) :=
    fun b hs h0 h1 h2 => (h c b hs).trans (final_keeps m b h0 h1 h2 c)
  exact ⟨one main_arg0 rfl (by decide +kernel) (by decide +kernel) (by decide +kernel),
    one main_arg1 rfl (by decide +kernel) (by decide +kernel) (by decide +kernel),
    one main_arg2 rfl (by decide +kernel) (by decide +kernel) (by decide +kernel),
    one main_arg3 rfl (by decide +kernel) (by decide +kernel) (by decide +kernel),
    one main_arg4 rfl (by decide +kernel) (by decide +kernel) (by decide +kernel)⟩

/-- The reference's frame: its arguments kept, and no semaphore to leave raised. -/
theorem frame : θ_run (defs (F := F)) (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0) :=
  (θ_run defs _ _).mono (fun r h => ⟨fun c => args_kept m c r h, sem_eq_zero_of_no_sems rfl r.2⟩) (run_fold m ρ)

end

end Cert.Proof.LR

end
-- ==== Proof.Frames.lean ====
/-
  The frames. A chunk of the mask never counts past its 128 steps, on words or over the reals, so the launch runs at both; the
  kernel on words is the same program text as the kernel over the reals, read at another meaning of the floats.
-/
module

public import proofs.«01_k».proof.Defs
public import proofs.«01_k».proof.Proof.Run
public import proofs.«01_k».proof.Proof.Host
public import proofs.«01_k».proof.Proof.RefFrame
public import proofs.«01_k».proof.Proof.Gen.Kernel

@[expose] public section

set_option maxRecDepth 65536
set_option maxHeartbeats 4000000

open Idealize Idealize.ShloMosaic Idealize.ShloMosaic.TcCoe Idealize.SL.Sem

namespace Cert.Proof.LK

open Cert.KernelIdeal Cert.KernelIdeal.Gen Idealize.ShloMosaic.Pipeline

noncomputable section

theorem countOk_bits (m : (ℓ : Loc nD τ sig) → Buf (Elt Bits) ℓ) : CountOk m := fun c t => by
  rw [active_bits]; exact most_le _ (bits_le m c t)

theorem countOk_ideal (m : (ℓ : Loc nD τ sig) → Buf (Elt Ideal) ℓ) : CountOk m := fun c t => by
  rw [active_ideal]; exact most_le _ (bits_le m c t)

section Any

variable {F : FTy → Type} [FloatOps F]
variable (m : (ℓ : Loc nD τ sig) → Buf (Elt F) ℓ) (ρ : Dev nD → PrngReg)

/-- A launch leaves the arguments as found: what it stages it only reads, and the rest it never touches. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  have unstaged : ∀ b : Ref sig .tc, b ∈ Pipeline.restRefs sig spec0 → r.2.mem ((c.tc : Thread nD τ).loc b) = V m c b := (h c).2
  refine ⟨?_, ?_, ?_, ?_, ?_⟩
  · exact ((h c).1 0).trans (((dats m 0 c).arrAt_in 0 rfl _).trans ((A_eq m c 0).trans (V_main_arg0 m c)))
  · exact (unstaged main_arg1 (Pipeline.mem_restRefs_of main_arg1 (by decide) (by decide))).trans (V_main_arg1 m c)
  · exact ((h c).1 2).trans (((dats m 0 c).arrAt_in 2 rfl _).trans ((A_eq m c 2).trans (V_main_arg2 m c)))
  · exact (unstaged main_arg3 (Pipeline.mem_restRefs_of main_arg3 (by decide) (by decide))).trans (V_main_arg3 m c)
  · exact (unstaged main_arg4 (Pipeline.mem_restRefs_of main_arg4 (by decide) (by decide))).trans (V_main_arg4 m c)

theorem frame (hn : CountOk m) : θ_run (defs (F := F)) (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0) :=
  (θ_run defs _ _).mono (fun r h => ⟨args_kept m r h.1, h.2⟩) (launch m ρ hn)

/-- The two kernels' bodies are one text. -/
theorem body_eq : @Cert.Kernel.cc0__lstm_chunk_kernel F _ _ = @Cert.KernelIdeal.cc0__lstm_chunk_kernel F _ _ := rfl

theorem main_eq : @Cert.Kernel.main F _ _ = @Cert.KernelIdeal.main F _ _ := rfl

theorem defs0_eq : @Cert.Kernel.defs₀ F _ _ = @Cert.KernelIdeal.defs₀ F _ _ := by
  unfold Cert.Kernel.defs₀ Cert.KernelIdeal.defs₀
  refine congrArg (fun f => Defs.onTc f) ?_
  funext l x
  match l, x with
  | 0, (t, s) => exact rfl
  | ⟨_ + 1, h⟩, _ => exact absurd h (Nat.not_lt.2 (Nat.le_add_left _ _))

theorem defs_eq : @Cert.Kernel.defs F _ _ = @Cert.KernelIdeal.defs F _ _ := by
  unfold Cert.Kernel.defs Cert.KernelIdeal.defs
  rw [defs0_eq]
  rfl

end Any

end

end Cert.Proof.LK

namespace Cert.Proof

theorem kernel_frame : Cert.quiescent_Kernel (hKernel := Cert.Kernel.Gen.facts) := by
  intro m g _
  rw [LK.defs_eq, LK.main_eq]
  exact LK.frame m g (LK.countOk_bits m)

theorem kernelIdeal_frame : Cert.quiescent_KernelIdeal (hKernelIdeal := Cert.KernelIdeal.Gen.facts) :=
  fun m g _ => LK.frame m g (LK.countOk_ideal m)

theorem referenceIdeal_frame : Cert.quiescent_ReferenceIdeal (hReferenceIdeal := Cert.ReferenceIdeal.Gen.facts) :=
  fun m g _ => LR.frame m g

end Cert.Proof

end
-- ==== Proof.Spec.lean ====
/-
  The masked LSTM of one sequence, over the extended reals: the state before each step and the step's output, as a
  recursion over the steps. Kernel and reference are both read as this recursion, each sequence by itself.
-/
module

public import Idealize.ShloMosaic.PureOps.Ideal
public import Idealize.ShloMosaic.Lib.Pointwise.Index

@[expose] public section

noncomputable section

namespace Cert.Proof.Spec

open Idealize.ShloMosaic
open scoped BigOperators

/-- A vector of hidden units. -/
abbrev Row := Fin 512 → EReal

/-- Unit `j` of the input gate, of the forget gate, of the candidate and of the output gate, among the four side by side. -/
abbrev inp (j : Fin 512) : Fin 2048 := ⟨j.val, by omega⟩
abbrev fgt (j : Fin 512) : Fin 2048 := ⟨512 + j.val, by omega⟩
abbrev cand (j : Fin 512) : Fin 2048 := ⟨1024 + j.val, by omega⟩
abbrev outp (j : Fin 512) : Fin 2048 := ⟨1536 + j.val, by omega⟩

/-- The new cell vector, from the gates' sums and the cell vector. -/
def newC (g : Fin 2048 → EReal) (c : Row) : Row := fun j =>
  Ideal.logistic (g (fgt j)) * c j + Ideal.logistic (g (inp j)) * Ideal.tanh (g (cand j))

/-- The new hidden vector. -/
def newH (g : Fin 2048 → EReal) (c : Row) : Row := fun j =>
  Ideal.logistic (g (outp j)) * Ideal.tanh (newC g c j)

/-- One step: the new hidden and cell vector if the step is valid, else the old ones. -/
def step (g : Fin 2048 → EReal) (v : Bool) (s : Row × Row) : Row × Row :=
  if v then (newH g s.2, newC g s.2) else s

/-- The step's output: the new hidden vector if the step is valid, else zero. -/
def emit (g : Fin 2048 → EReal) (v : Bool) (s : Row × Row) : Row :=
  if v then newH g s.2 else fun _ => 0

section Run

variable (wi wh : (⟨2, ![512, 2048]⟩ : Shape).Idx → EReal) (b : Fin 2048 → EReal) (x : ℕ → Row) (v : ℕ → Bool)

/-- The gates' sums from an input vector and the hidden vector. -/
def gates (x h : Row) (j : Fin 2048) : EReal :=
  (∑ k : Fin 512, x k * wi (ix2 k j)) + (∑ k : Fin 512, h k * wh (ix2 k j)) + b j

/-- The state before step `t`. -/
def run : ℕ → Row × Row
  | 0 => (fun _ => 0, fun _ => 0)
  | t + 1 => step (gates wi wh b (x t) (run t).1) (v t) (run t)

/-- The output of step `t`. -/
def out (t : ℕ) : Row := emit (gates wi wh b (x t) (run wi wh b x v t).1) (v t) (run wi wh b x v t)

/-- Steps that are not valid leave the state. -/
theorem run_idle (t n : ℕ) (h : ∀ i, i < n → v (t + i) = false) : run wi wh b x v (t + n) = run wi wh b x v t := by
  induction n with
  | zero => rfl
  | succ n ih =>
    rw [← Nat.add_assoc, run, h n (Nat.lt_succ_self n), step]
    simpa using ih fun i hi => h i (Nat.lt_succ_of_lt hi)

/-- The output of a step that is not valid is zero. -/
theorem out_idle (t : ℕ) (h : v t = false) : out wi wh b x v t = fun _ => 0 := by
  rw [out, h, emit]; rfl

end Run

section Arrays

variable (x : (⟨3, ![16, 2048, 512]⟩ : Shape).Idx → EReal) (mk : (⟨2, ![16, 2048]⟩ : Shape).Idx → BitVec 1)
  (wi wh : (⟨2, ![512, 2048]⟩ : Shape).Idx → EReal) (b : (⟨1, ![2048]⟩ : Shape).Idx → EReal) (p : Fin 16)

/-- Step number `t` of a sequence, as an index. -/
abbrev at' (t : ℕ) : Fin 2048 := ⟨t % 2048, Nat.mod_lt _ (by decide)⟩

/-- The input vector of sequence `p` at step `t`. -/
def input (t : ℕ) : Row := fun k => x (ix3 p (at' t) k)

/-- Whether step `t` of sequence `p` is valid. -/
def bit (t : ℕ) : Bool := decide (mk (ix2 p (at' t)) = 1#1)

/-- The state of sequence `p` before step `t`. -/
def state (t : ℕ) : Row × Row := run wi wh (fun j => b (ix1 j)) (input x p) (bit mk p) t

/-- The output of sequence `p` at step `t`. -/
def output (t : ℕ) : Row := out wi wh (fun j => b (ix1 j)) (input x p) (bit mk p) t

/-- Every row of the mask is a prefix. -/
def Prefix : Prop := ∀ (p : Fin 16) (t : ℕ), t + 1 < 2048 → bit mk p (t + 1) = true → bit mk p t = true

variable {mk}

theorem Prefix.down (h : Prefix mk) (s d : ℕ) (hd : s + d < 2048) (hb : bit mk p (s + d) = true) : bit mk p s = true := by
  induction d with
  | zero => exact hb
  | succ d ih => exact ih (by omega) (h p _ (by omega) hb)

end Arrays

end Cert.Proof.Spec

end
-- ==== Proof.Cell.lean ====
/-
  One step of the kernel, read by rows over the extended reals: each sequence makes the step of the masked LSTM.
-/
module

public import proofs.«01_k».proof.Proof.Steps
public import proofs.«01_k».proof.Proof.Spec
public import Idealize.ShloMosaic.Lib.Pointwise

@[expose] public section

set_option maxRecDepth 16384

noncomputable section

namespace Cert.Proof.LK

open Cert.KernelIdeal Cert.KernelIdeal.Gen
open Idealize.ShloMosaic
open scoped BigOperators

/-- The state of sequence `p`. -/
def rowOf (s : St Ideal) (p : Fin 16) : Spec.Row × Spec.Row := (fun j => s.1 (ix2 p j), fun j => s.2 (ix2 p j))

section

variable (b : FVec Ideal S1x2048 .f32) (w : Vec Ideal S512x2048 .bf16) (g : Vec Ideal S1x16x2048 .f32)
  (mk : Vec Ideal S1x16x1 .f32) (s : St Ideal) (p : Fin 16)

/-- The gates' sums of sequence `p`. -/
def sums (j : Fin 2048) : EReal :=
  g (ix3 0 p j) + (∑ k : Fin 512, (rowOf s p).1 k * w (ix2 k j)) + b (ix2 0 j)

/-- Whether the step is valid for sequence `p`. -/
def valid : Bool := decide ((0 : EReal) < mk (ix3 0 p 0))

theorem pay8_at (j : Fin 2048) : k0_pay8 b s.1 g w (ix2 p j) = sums b w g s p j := by
  pointwise [k0_pay8, sums, rowOf]

theorem pay9_at (j : Fin 512) : k0_pay9 b s.1 s.2 g w (ix2 p j) = Spec.newC (sums b w g s p) (rowOf s p).2 j := by
  pointwise [k0_pay9]
  simp only [pay8_at]
  rfl

theorem pay10_at (j : Fin 512) : k0_pay10 b s.1 s.2 g w (ix2 p j) = Spec.newH (sums b w g s p) (rowOf s p).2 j := by
  pointwise [k0_pay10]
  simp only [pay8_at, pay9_at]
  rfl

theorem pay11_at : k0_pay11 mk (ix2 p 0) = BitVec.ofBool (valid mk p) := by
  pointwise [k0_pay11, valid]

theorem pay12_at (j : Fin 512) :
    k0_pay12 b s.1 s.2 g w mk (ix2 p j) = (Spec.step (sums b w g s p) (valid mk p) (rowOf s p)).1 j := by
  pointwise [k0_pay12]
  rw [pay11_at, pay10_at]
  cases valid mk p <;> rfl

theorem pay13_at (j : Fin 512) :
    k0_pay13 b s.1 s.2 g w mk (ix2 p j) = (Spec.step (sums b w g s p) (valid mk p) (rowOf s p)).2 j := by
  pointwise [k0_pay13]
  rw [pay11_at, pay9_at]
  cases valid mk p <;> rfl

/-- A step of the kernel is a step of every sequence, -/
theorem cell_row : rowOf (cell b w g mk s) p = Spec.step (sums b w g s p) (valid mk p) (rowOf s p) :=
  Prod.ext (funext fun j => pay12_at b w g mk s p j) (funext fun j => pay13_at b w g mk s p j)

/-- and the row that it stores holds every sequence's output. -/
theorem cellOut_row (j : Fin 512) : cellOut b w g mk s (ix3 p 0 j) = Spec.emit (sums b w g s p) (valid mk p) (rowOf s p) j := by
  pointwise [cellOut, k0_pay14]
  rw [pay11_at, pay10_at]
  cases valid mk p <;> rfl

end

end Cert.Proof.LK

end
-- ==== Proof.Chunk.lean ====
/-
  A chunk of 128 steps, and the chain of the chunks: after `n` chunks the carried state of each sequence is the state of
  the masked LSTM after `128 n` steps, and the chunk's block holds the outputs. The kernel runs a chunk only up to the
  greatest count of valid steps, rounded up to a group of eight; where every row of the mask is a prefix, no step past
  that is valid.
-/
module

public import proofs.«01_k».proof.Proof.Cell
public import proofs.«01_k».proof.Proof.Host
public import proofs.«01_k».proof.Proof.Run

@[expose] public section

set_option maxRecDepth 16384

open Idealize Idealize.ShloMosaic Idealize.ShloMosaic.TcCoe

namespace Cert.Proof.LK

open Cert.KernelIdeal Cert.KernelIdeal.Gen Idealize.ShloMosaic.Pipeline
open scoped BigOperators

noncomputable section

variable (m : (ℓ : Loc nD τ sig) → Buf (Elt Ideal) ℓ) (c : Dev nD)

/-- The arguments as launched. -/
abbrev aX : S16x2048x512.Idx → EReal := m ((c : Thread nD τ).loc main_arg0)
abbrev aWi : S512x2048.Idx → EReal := m ((c : Thread nD τ).loc main_arg2)
abbrev aWh : S512x2048.Idx → EReal := m ((c : Thread nD τ).loc main_arg3)
abbrev aB : S2048.Idx → EReal := m ((c : Thread nD τ).loc main_arg4)

/-- The state of a sequence before a step, from the arguments. -/
abbrev spec (p : Fin 16) (t : ℕ) : Spec.Row × Spec.Row := Spec.state (aX m c) (mask m c) (aWi m c) (aWh m c) (aB m c) p t

/-- The output of a sequence at a step, from the arguments. -/
abbrev specOut (p : Fin 16) (t : ℕ) : Spec.Row := Spec.output (aX m c) (mask m c) (aWi m c) (aWh m c) (aB m c) p t

theorem ones'_at (n : S128x16x1.Idx → ℕ) (j : S16x1.Idx) : ∃ i, ones' n i = ones n j :=
  ⟨(Shape.reshapeEquiv shapeCasts_S16x1_S1x16x1).symm j, congrArg (ones n) (Equiv.apply_symm_apply _ _)⟩

theorem ones_at (n : S128x16x1.Idx → ℕ) (p : Fin 16) : ones n (ix2 p 0) = ∑ k : Fin 128, n (ix3 k p 0) := by
  rw [ones_eq]
  refine Finset.sum_congr rfl fun k _ => congrArg n (funext fun a => ?_)
  fin_cases a <;> rfl

theorem at_step {t : Fin cfg0.N} (r : Fin 128) : Spec.at' (128 * t.val + r.val) = ⟨128 * t.val + r.val, lt_steps t r⟩ :=
  Fin.ext (Nat.mod_eq_of_lt (lt_steps t r))

theorem bits_one (t : Fin cfg0.N) (r : Fin 128) (p : Fin 16) (h : Spec.bit (mask m c) p (128 * t.val + r.val) = true) :
    bits m c t (ix3 r p 0) = 1 := by
  have h' : mask m c (ix2 p ⟨128 * t.val + r.val, lt_steps t r⟩) = 1#1 := by
    rw [← at_step]; exact of_decide_eq_true h
  show (mask m c (ix2 p ⟨128 * t.val + r.val, lt_steps t r⟩)).toNat = 1
  rw [h']; rfl

theorem steps_le (t : Fin cfg0.N) : steps (bM m c t) ≤ 128 := by
  have h : (cnt (bM m c t)).toNat ≤ 128 := by
    rw [active_ideal]; exact most_le _ (bits_le m c t)
  unfold steps; omega

theorem most_le_steps (t : Fin cfg0.N) : most (bits m c t) ≤ steps (bM m c t) := by
  have h : (cnt (bM m c t)).toNat = most (bits m c t) := active_ideal m c t
  unfold steps; omega

/-- Past the count of a chunk no step is valid. -/
theorem idle_after (hp : Spec.Prefix (mask m c)) (t : Fin cfg0.N) (r : Fin 128) (hr : steps (bM m c t) ≤ r.val) (p : Fin 16) :
    Spec.bit (mask m c) p (128 * t.val + r.val) = false := by
  by_contra hb
  rw [Bool.not_eq_false] at hb
  have h1 : r.val + 1 ≤ ones (bits m c t) (ix2 p 0) := by
    rw [ones_at, ← Fin.card_Iic r, Finset.card_eq_sum_ones]
    refine (Finset.sum_le_sum fun k hk => ?_).trans (Finset.sum_le_sum_of_subset (Finset.subset_univ _))
    have hk' : k ≤ r := Finset.mem_Iic.mp hk
    have hk' : k.val ≤ r.val := hk'
    refine (bits_one m c t k p (hp.down p (128 * t.val + k.val) (r.val - k.val) ?_ ?_)).ge
    · have := lt_steps t r; omega
    · rwa [show 128 * t.val + k.val + (r.val - k.val) = 128 * t.val + r.val by omega]
  obtain ⟨i, hi⟩ := ones'_at (bits m c t) (ix2 p 0)
  have h2 := le_most (bits m c t) i
  have h3 := most_le_steps m c t
  omega

theorem x_at (t : Fin cfg0.N) (r : Fin 128) (p : Fin 16) (j : Fin 2048) :
    k0_pay122 (bX m c t) (bWi m c t) (ix3 r p j)
      = ∑ k : Fin 512, Spec.input (aX m c) p (128 * t.val + r.val) k * aWi m c (ix2 k j) := by
  pointwise [k0_pay122]
  refine Finset.sum_congr rfl fun k _ => ?_
  have e0 : bX m c t (ix3 p r k) = aX m c (ix3 p ⟨128 * t.val + r.val, lt_steps t r⟩ k) := blk_x m c t p r k
  have e2 : bWi m c t = aWi m c := blk_wih m c t
  rw [e0, e2, Spec.input, at_step]

theorem whh_at (t : Fin cfg0.N) (q : S512x2048.Idx) : bWh m c t q = aWh m c q := by
  show iblk m c 3 t q = _
  rw [blk_whh, V_whh]; rfl

theorem bias_at (t : Fin cfg0.N) (j : Fin 2048) : k0_pay3 (bB m c t) (ix2 0 j) = aB m c (ix1 j) := by
  pointwise [k0_pay3]
  show iblk m c 4 t (ix2 0 j) = _
  rw [blk_bias, V_bias]
  pointwise []

theorem valid_at (t : Fin cfg0.N) (r : Fin 128) (p : Fin 16) :
    valid (mRow (bM m c t) r.val) p = Spec.bit (mask m c) p (128 * t.val + r.val) := by
  have h : mRow (bM m c t) r.val (ix3 0 p 0) = (FloatOps.uitofp .f32 (mask m c (ix2 p (Spec.at' (128 * t.val + r.val)))) : Ideal .f32) := by
    rw [at_step, ← blk_mask_at]
    exact congrArg (fun q : Fin 128 => bM m c t (ix3 q p 0)) (Fin.ext (Nat.mod_eq_of_lt r.isLt))
  unfold valid Spec.bit
  rw [h]
  generalize mask m c (ix2 p (Spec.at' (128 * t.val + r.val))) = b
  show decide ((0 : EReal) < (((b.toNat : ℕ) : ℝ) : EReal)) = decide (b = 1#1)
  refine decide_eq_decide.mpr ?_
  rw [← EReal.coe_zero, EReal.coe_lt_coe_iff, Nat.cast_pos, ← BitVec.toNat_inj]
  have := b.isLt
  simp only [BitVec.toNat_ofNat]
  omega

theorem sums_at (t : Fin cfg0.N) (r : Fin 128) (p : Fin 16) (s : St Ideal) :
    sums (k0_pay3 (bB m c t)) (bWh m c t) (gRow (k0_pay122 (bX m c t) (bWi m c t)) r.val) s p
      = Spec.gates (aWi m c) (aWh m c) (fun j => aB m c (ix1 j)) (Spec.input (aX m c) p (128 * t.val + r.val)) (rowOf s p).1 := by
  funext j
  have h : gRow (k0_pay122 (bX m c t) (bWi m c t)) r.val (ix3 0 p j) = k0_pay122 (bX m c t) (bWi m c t) (ix3 r p j) :=
    congrArg (fun q : Fin 128 => k0_pay122 (bX m c t) (bWi m c t) (ix3 q p j)) (Fin.ext (Nat.mod_eq_of_lt r.isLt))
  unfold sums Spec.gates
  rw [h, x_at, bias_at]
  simp only [whh_at]

/-- Within a chunk: from the state after `128 t` steps, the state after `r` more. -/
theorem stAt_row (t : Fin cfg0.N) (s : St Ideal) (hs : ∀ p, rowOf s p = spec m c p (128 * t.val)) (r : ℕ) (hr : r ≤ 128) (p : Fin 16) :
    rowOf (stAt (k0_pay3 (bB m c t)) (bWh m c t) (k0_pay122 (bX m c t) (bWi m c t)) (bM m c t) s r) p = spec m c p (128 * t.val + r) := by
  induction r with
  | zero => exact hs p
  | succ r ih =>
    have h1 := sums_at m c t ⟨r, hr⟩ p
    have h2 := valid_at m c t ⟨r, hr⟩ p
    dsimp only at h1 h2
    rw [stAt, cell_row, h1, h2, ih (by omega)]
    rfl

/-- The outputs of a chunk's steps. -/
theorem outAt_row (t : Fin cfg0.N) (s : St Ideal) (hs : ∀ p, rowOf s p = spec m c p (128 * t.val)) (r : ℕ) (hr : r < 128) (p : Fin 16)
    (j : Fin 512) :
    outAt (k0_pay3 (bB m c t)) (bWh m c t) (k0_pay122 (bX m c t) (bWi m c t)) (bM m c t) s r (ix3 p 0 j) = specOut m c p (128 * t.val + r) j := by
  have h1 := sums_at m c t ⟨r, hr⟩ p
  have h2 := valid_at m c t ⟨r, hr⟩ p
  dsimp only at h1 h2
  rw [outAt, cellOut_row, h1, h2, stAt_row m c t s hs r hr.le p]
  rfl

/-- What a chunk leaves: the state after its 128 steps. -/
theorem chunkSt_row (hp : Spec.Prefix (mask m c)) (t : Fin cfg0.N) (s : St Ideal) (hs : ∀ p, rowOf s p = spec m c p (128 * t.val)) (p : Fin 16) :
    rowOf (chunkSt (bX m c t) (bM m c t) (bWi m c t) (bWh m c t) (bB m c t) s) p = spec m c p (128 * t.val + 128) := by
  have hl := steps_le m c t
  have h : rowOf (chunkSt (bX m c t) (bM m c t) (bWi m c t) (bWh m c t) (bB m c t) s) p
      = spec m c p (128 * t.val + steps (bM m c t)) := by
    unfold chunkSt
    split
    · rw [← stAt_row m c t s hs _ hl p, k0_pay6, k0_pay7]
      simp only [shapeCast_self]
    · rename_i h0
      rw [show steps (bM m c t) = 0 by unfold steps; omega]
      exact hs p
  rw [h]
  have h2 := Spec.run_idle (aWi m c) (aWh m c) (fun j => aB m c (ix1 j)) (Spec.input (aX m c) p) (Spec.bit (mask m c) p)
    (128 * t.val + steps (bM m c t)) (128 - steps (bM m c t)) fun i hi => by
      have := idle_after m c hp t ⟨steps (bM m c t) + i, by omega⟩ (Nat.le_add_right _ _) p
      rwa [Nat.add_assoc]
  rw [show 128 * t.val + steps (bM m c t) + (128 - steps (bM m c t)) = 128 * t.val + 128 by omega] at h2
  exact h2.symm

theorem start_row (p : Fin 16) : rowOf (stN m c 0) p = spec m c p 0 := by
  refine Prod.ext (funext fun j => ?_) (funext fun j => ?_)
  · show (k0_pay1 (F := Ideal)) (ix2 p j) = _
    pointwise [k0_pay1]
    rfl
  · show (k0_pay2 (F := Ideal)) (ix2 p j) = _
    pointwise [k0_pay2]
    rfl

/-- After `n` chunks the carried state is that after `128 n` steps. -/
theorem stN_row (hp : Spec.Prefix (mask m c)) (n : ℕ) (hn : n ≤ 16) (p : Fin 16) : rowOf (stN m c n) p = spec m c p (128 * n) := by
  induction n generalizing p with
  | zero => exact start_row m c p
  | succ n ih =>
    have hn' : n < 16 := hn
    have ht : (pt n).val = n := Nat.mod_eq_of_lt hn'
    have h := chunkSt_row m c hp (pt n) (stN m c n) (fun q => by rw [ht]; exact ih hn'.le q) p
    rw [ht] at h
    exact h

/-- The block of outputs that a grid point leaves. -/
theorem yN_at (hp : Spec.Prefix (mask m c)) (t : Fin cfg0.N) (p : Fin 16) (r : Fin 128) (j : Fin 512) :
    yN m c t (ix3 p r j) = specOut m c p (128 * t.val + r.val) j := by
  have hs : ∀ q, rowOf (stN m c t.val) q = spec m c q (128 * t.val) := fun q =>
    stN_row m c hp t.val (le_of_lt (lt_of_lt_of_eq t.isLt N_0)) q
  show (if r.val < steps (bM m c t) then _ else _) = _
  split
  · exact outAt_row m c t _ hs r.val r.isLt p j
  · rename_i h
    rw [specOut, Spec.output, Spec.out_idle _ _ _ _ _ _ (idle_after m c hp t r (by omega) p)]
    pointwise [k0_pay5]

end

end Cert.Proof.LK
-- ==== Proof.Final.lean ====
/-
  What the kernel's result arrays hold after the run: the outputs of every sequence at every step, and the hidden and the
  cell vector after the last step.
-/
module

public import proofs.«01_k».proof.Proof.Chunk
public import proofs.«01_k».proof.Proof.Frames

@[expose] public section

set_option maxRecDepth 16384

open Idealize Idealize.ShloMosaic Idealize.ShloMosaic.TcCoe

namespace Cert.Proof.LK

open Cert.KernelIdeal Cert.KernelIdeal.Gen Idealize.ShloMosaic.Pipeline

noncomputable section

variable (m : (ℓ : Loc nD τ sig) → Buf (Elt Ideal) ℓ) (c : Dev nD)

/-- The outputs. -/
def resY : S16x2048x512.Idx → EReal := fun i => specOut m c (i 0) (i 1).val (i 2)
/-- The final hidden vectors. -/
def resH : S16x512.Idx → EReal := fun i => (spec m c (i 0) 2048).1 (i 1)
/-- The final cell vectors. -/
def resC : S16x512.Idx → EReal := fun i => (spec m c (i 0) 2048).2 (i 1)

theorem at5 : ∀ t : Fin cfg0.N, win0_5.index t = ![0, t.val, 0] := (by decide +kernel : ∀ t : Fin grid0.N, _)

/-- The last grid point. -/
abbrev last : Fin cfg0.N := ⟨15, lt_of_lt_of_eq (by decide) N_0.symm⟩

theorem yN_eq (hp : Spec.Prefix (mask m c)) (t : Fin cfg0.N) (q : S16x128x512.Idx) :
    yN m c t q = resY m c (ix3 (q 0) ⟨128 * t.val + (q 1).val, lt_steps t (q 1)⟩ (q 2)) := by
  have h := yN_at m c hp t (q 0) (q 1) (q 2)
  rw [ix3_eta] at h
  exact h

theorem arr_y (hp : Spec.Prefix (mask m c)) : (dats m 0 c).arrAt 5 cfg0.N = resY m c := by
  refine (dats m 0 c).arrAt_eq_of_covers 5 _ (by decide +kernel) fun t hf y => ?_
  rw [after5]
  refine (yN_eq m c hp t _).trans (congrArg (resY m c) ?_)
  blk_ext [at5]

theorem row_at {s : St Ideal} {v : Spec.Row × Spec.Row} {p : Fin 16} (h : rowOf s p = v) (j : Fin 512) :
    s.1 (ix2 p j) = v.1 j ∧ s.2 (ix2 p j) = v.2 j := by
  subst h; exact ⟨rfl, rfl⟩

theorem last_row (hp : Spec.Prefix (mask m c)) (i : S16x512.Idx) :
    (stN m c 16).1 i = resH m c i ∧ (stN m c 16).2 i = resC m c i := by
  obtain ⟨p, k, rfl⟩ : ∃ (p : Fin 16) (k : Fin 512), i = ix2 p k := ⟨i 0, i 1, (ix2_eta i).symm⟩
  exact row_at ((stN_row m c hp 16 le_rfl p).trans (congrArg (spec m c p) (by norm_num))) k

theorem arr_h (hp : Spec.Prefix (mask m c)) : (dats m 0 c).arrAt 6 cfg0.N = resH m c := by
  refine (dats m 0 c).arrAt_eq_of_after_last 6 last (by decide +kernel) _ fun j => ?_
  rw [after6]
  have e : (last).val + 1 = 16 := rfl
  rw [e]
  exact (last_row m c hp _).1

theorem arr_c (hp : Spec.Prefix (mask m c)) : (dats m 0 c).arrAt 7 cfg0.N = resC m c := by
  refine (dats m 0 c).arrAt_eq_of_after_last 7 last (by decide +kernel) _ fun j => ?_
  rw [after7]
  have e : (last).val + 1 = 16 := rfl
  rw [e]
  exact (last_row m c hp _).2

end

end Cert.Proof.LK
-- ==== Proof.RefPerm.lean ====
/-
  The reference's reordering of the sequences: the argsort of any key is a permutation of the sequences, the argsort of that
  is its inverse, and a take by either reads the sequence that it names.
-/
module

public import proofs.«01_k».proof.Proof.Gen.ReferenceIdeal.Run
public import Idealize.ShloMosaic.Lib.SortFacts
public import Idealize.ShloMosaic.Lib.Routing.OpsSet
public import Idealize.ShloMosaic.Lib.Pointwise
public import Mathlib.Order.WellFounded

@[expose] public section

set_option maxRecDepth 65536
set_option maxHeartbeats 1000000

open Idealize Idealize.ShloMosaic Idealize.ShloMosaic.TcCoe Idealize.ShloMosaic.StableHlo Idealize.SL.Sem

namespace Cert.Proof.LR

open Cert.ReferenceIdeal Cert.ReferenceIdeal.Gen Cert.ReferenceIdeal.Value

noncomputable section

/-! ## The argsort -/

/-- The position that the argsort of the key `x` puts at each position. -/
def order (x : S16.Idx → BitVec 32) : Fin 16 → Fin 16 :=
  sortedFrom fun k k' => IntOp.cmpi .slt (x (ix1 k)) (x (ix1 k')) == 1#1

theorem ofFin_ix1 {n : Nat} (k : Fin n) : Shape.Idx.ofFin k = ix1 k := by
  funext a; obtain rfl : a = 0 := Subsingleton.elim _ _; rfl

/-- A rank-1 operand of a sort, read through the self-map of the positions. -/
theorem sortBy_rank1 {n : Nat} {ι α : Type} (cmp : ι → ι → BitVec 1) (rows : (⟨1, ![n]⟩ : Shape).Idx → ι)
    (x : (⟨1, ![n]⟩ : Shape).Idx → α) (j : (⟨1, ![n]⟩ : Shape).Idx) :
    Host.sortBy ⟨1, ![n]⟩ 0 cmp rows x j
      = x (Shape.Idx.ofFin (sortedFrom (fun k k' => cmp (rows (Shape.Idx.ofFin k)) (rows (Shape.Idx.ofFin k')) == 1#1) (j 0))) := by
  unfold Host.sortBy
  simp

theorem argsort_at (x : S16.Idx → BitVec 32) (k : Fin 16) :
    (Host.sort2 S16 0 comparator_i32_i32_d0 x (iotaInDim S16 32 0)).2 (ix1 k) = BitVec.ofNat 32 (order x k).val := by
  have h := congrFun (congrArg Prod.snd (Host.sort2_eq_sortBy S16 0 comparator_i32_i32_d0 x (iotaInDim S16 32 0))) (ix1 k)
  refine h.trans ?_
  dsimp only
  refine (sortBy_rank1 (n := 16) comparator_i32_i32_d0 _ _ (ix1 k)).trans ?_
  simp only [ofFin_ix1]
  have e : ∀ q : Fin 16, iotaInDim S16 32 0 (ix1 q) = BitVec.ofNat 32 q.val := fun _ => rfl
  refine (e _).trans (congrArg (fun f : Fin 16 → Fin 16 => BitVec.ofNat 32 (f k).val) ?_)
  unfold order comparator_i32_i32_d0
  rfl

theorem order_injective (x : S16.Idx → BitVec 32) : Function.Injective (order x) := sortedFrom_injective _

theorem slt_ofNat (a b : Fin 16) : (IntOp.cmpi .slt (BitVec.ofNat 32 a.val) (BitVec.ofNat 32 b.val) == 1#1) = decide (a < b) := by
  revert a b; decide

/-- The argsort of an argsort is its inverse. -/
theorem order_order (x y : S16.Idx → BitVec 32) (hy : ∀ k : Fin 16, y (ix1 k) = BitVec.ofNat 32 (order x k).val) (k : Fin 16) :
    order x (order y k) = k := by
  have hB : ∀ a b : Fin 16, (IntOp.cmpi .slt (y (ix1 a)) (y (ix1 b)) == 1#1) = decide (order x a < order x b) := fun a b => by
    rw [hy, hy, slt_ofNat]
  have hmono : StrictMono fun k => order x (order y k) := by
    intro i j hij
    have h := sortedFrom_noInversion (fun a b => IntOp.cmpi .slt (y (ix1 a)) (y (ix1 b)) == 1#1)
      (fun a b => IntOp.cmpi .slt (y (ix1 a)) (y (ix1 b)) == 1#1)
      (fun a b h => by rw [hB] at h ⊢; simp only [decide_eq_true_eq, decide_eq_false_iff_not] at h ⊢; omega)
      (fun _ _ h => h)
      (fun a b c h₁ h₂ => by rw [hB] at h₁ h₂ ⊢; simp only [decide_eq_false_iff_not] at h₁ h₂ ⊢; omega) i j hij
    rw [hB, decide_eq_false_iff_not, not_lt] at h
    have hne : order x (order y i) ≠ order x (order y j) := fun e =>
      absurd (order_injective y (order_injective x e)) (ne_of_lt hij)
    exact lt_of_le_of_ne h hne
  have hsurj : Function.Surjective fun k => order x (order y k) := Finite.injective_iff_surjective.mp hmono.injective
  have he : (fun k => order x (order y k)) = fun k => k :=
    (hmono.range_inj strictMono_id).mp (hsurj.range_eq.trans Set.range_id.symm)
  exact congrFun he k

/-! ## The takes -/

/-- A take's start indices, as the reference writes them: a negative index counts from the end. -/
def starts (v : S16.Idx → BitVec 32) : S16x1.Idx → BitVec 32 :=
  broadcastInDim S16x1 ![0] bcast_S16_S16x1_0 (select (cmpi .slt v (broadcastInDim S16 ![] bcast_S_S16 (constantI S_ 32 0#32)))
    (addi v (broadcastInDim S16 ![] bcast_S_S16 (constantI S_ 32 16#32))) v)

theorem starts_at (v : S16.Idx → BitVec 32) (p b : Fin 16) (hv : v (ix1 p) = BitVec.ofNat 32 b.val) :
    starts v (ix2 p 0) = BitVec.ofNat 32 b.val := by
  pointwise [starts]
  rw [hv]
  clear hv
  revert b; decide

variable {α : Type}

theorem take_row (x : S16x512.Idx → α) (idx : S16x1.Idx → BitVec 32) (p b : Fin 16) (j : Fin 512)
    (hb : idx (ix2 p 0) = BitVec.ofNat 32 b.val) :
    Host.gather gather_S16x512_S16x1_S16x512_1_0_n_n_0_1_1512 x idx (ix2 p j) = x (ix2 b j) :=
  Routing.gather_row _ rfl rfl rfl rfl rfl x idx p j b hb (by decide)

theorem take_one (x : S16.Idx → α) (idx : S16x1.Idx → BitVec 32) (p b : Fin 16) (hb : idx (ix2 p 0) = BitVec.ofNat 32 b.val) :
    Host.gather gather_S16_S16x1_S16_n_0_n_n_0_1_1 x idx (ix1 p) = x (ix1 b) :=
  Routing.gather_take1 _ rfl rfl rfl rfl x idx p b hb (by decide)

theorem take_seq (x : S16x2048x512.Idx → α) (idx : S16x1.Idx → BitVec 32) (p b : Fin 16) (t : Fin 2048) (j : Fin 512)
    (hb : idx (ix2 p 0) = BitVec.ofNat 32 b.val) :
    Host.gather gather_S16x2048x512_S16x1_S16x2048x512_12_0_n_n_0_1_12048512 x idx (ix3 p t j) = x (ix3 b t j) := by
  unfold Host.gather
  refine congrArg x (funext fun a => Fin.ext ?_)
  match a with
  | ⟨0, h0⟩ =>
    show GatherDims.start _ (ix3 p t j) idx 0 + GatherDims.batchCoord _ (ix3 p t j) 0 + GatherDims.offCoord _ (ix3 p t j) 0 = b.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S16x2048x512_S16x1_S16x2048x512_12_0_n_n_0_1_12048512.startIndexMap from List.mem_singleton.mpr rfl)]
    have hsi : ∀ h, gather_S16x2048x512_S16x1_S16x2048x512_12_0_n_n_0_1_12048512.siIdx (ix3 p t j)
        ⟨List.idxOf (0 : Fin 3) gather_S16x2048x512_S16x1_S16x2048x512_12_0_n_n_0_1_12048512.startIndexMap, h⟩ = ix2 p 0 := by
      intro h
      funext b'; refine Fin.ext ?_
      match b' with
      | ⟨0, _⟩ => rfl
      | ⟨1, _⟩ => rfl
    rw [hsi, hb]
    clear hb
    show min (BitVec.ofNat 32 b.val).toInt.toNat 15 = b.val
    revert b; decide
  | ⟨1, h1⟩ =>
    show GatherDims.start _ (ix3 p t j) idx 1 + GatherDims.batchCoord _ (ix3 p t j) 1 + GatherDims.offCoord _ (ix3 p t j) 1 = t.val
    rw [GatherDims.batchCoord_eq_zero _ _ _ List.not_mem_nil, Nat.add_zero]
    unfold GatherDims.start
    rw [dif_neg (show (1 : Fin 3) ∉ gather_S16x2048x512_S16x1_S16x2048x512_12_0_n_n_0_1_12048512.startIndexMap from
      fun h => absurd (List.mem_singleton.mp h) (by decide)), Nat.zero_add]
    rfl
  | ⟨2, h2⟩ =>
    show GatherDims.start _ (ix3 p t j) idx 2 + GatherDims.batchCoord _ (ix3 p t j) 2 + GatherDims.offCoord _ (ix3 p t j) 2 = j.val
    rw [GatherDims.batchCoord_eq_zero _ _ _ List.not_mem_nil, Nat.add_zero]
    unfold GatherDims.start
    rw [dif_neg (show (2 : Fin 3) ∉ gather_S16x2048x512_S16x1_S16x2048x512_12_0_n_n_0_1_12048512.startIndexMap from
      fun h => absurd (List.mem_singleton.mp h) (by decide)), Nat.zero_add]
    rfl

end

end Cert.Proof.LR

end
-- ==== Proof.RefStep.lean ====
/-
  One trip of the reference's loop, over the extended reals, read as one step of every row: the carried hidden and cell
  vectors become the recursion's, and the row of the outputs at the counter becomes the recursion's output.
-/
module

public import proofs.«01_k».proof.Proof.Gen.ReferenceIdeal.Run
public import proofs.«01_k».proof.Proof.Spec
public import Idealize.ShloMosaic.Lib.Pointwise

@[expose] public section

set_option maxRecDepth 65536
set_option maxHeartbeats 1000000

open Idealize Idealize.ShloMosaic Idealize.ShloMosaic.TcCoe Idealize.ShloMosaic.StableHlo Idealize.SL.Sem
open scoped BigOperators

namespace Cert.Proof.LR

open Cert.ReferenceIdeal Cert.ReferenceIdeal.Gen Cert.ReferenceIdeal.Value

noncomputable section

/-! ## Slices at the counter -/

theorem iv_toInt (k : ℕ) (hk : k < 2048) : (Scf.iv 0#32 1#32 k).toInt = k := by
  unfold Scf.iv
  rw [BitVec.zero_add, BitVec.mul_one, BitVec.toInt_eq_toNat_of_lt] <;> simp [BitVec.toNat_ofNat] <;> omega

theorem clamp_at {s t : Shape} (ht : t.rank = s.rank) (start : Fin s.rank → Int) (a : Fin s.rank) (k : ℕ) (hk : start a = k)
    (hle : k + t.size (a.cast ht.symm) ≤ s.size a) : Host.clampedStart s t ht start a = k :=
  Host.clampedStart_of_le ht start a k hk hle

variable {α : Type} (k : ℕ) (hk : k < 2048)

/-- A row of the inputs, sliced at the counter. -/
theorem slice_row (x : S2048x16x512.Idx → α) (start : Fin 3 → Int) (h : S2048x16x512.Slices (fun _ => 0) S1x16x512)
    (h0 : start 0 = k) (h1 : start 1 = 0) (h2 : start 2 = 0) (p : Fin 16) (q : Fin 512) :
    Host.dynamicSlice S1x16x512 x start h (ix3 0 p q) = x (ix3 ⟨k, hk⟩ p q) := by
  have c0 : Host.clampedStart S2048x16x512 S1x16x512 h.1 start 0 = k := clamp_at _ _ _ k h0 (by show k + 1 ≤ 2048; omega)
  have c1 : Host.clampedStart S2048x16x512 S1x16x512 h.1 start 1 = 0 := clamp_at _ _ _ 0 h1 (by show 0 + 16 ≤ 16; omega)
  have c2 : Host.clampedStart S2048x16x512 S1x16x512 h.1 start 2 = 0 := clamp_at _ _ _ 0 h2 (by show 0 + 512 ≤ 512; omega)
  rw [Host.dynamicSlice_apply]
  congr 1
  funext a
  refine Fin.ext ?_
  match a with
  | ⟨0, _⟩ => show Host.clampedStart S2048x16x512 S1x16x512 h.1 start 0 + 0 = k; omega
  | ⟨1, _⟩ => show Host.clampedStart S2048x16x512 S1x16x512 h.1 start 1 + p.val = p.val; omega
  | ⟨2, _⟩ => show Host.clampedStart S2048x16x512 S1x16x512 h.1 start 2 + q.val = q.val; omega

/-- An element of the step numbers, sliced at the counter. -/
theorem slice_one (x : S2048.Idx → α) (start : Fin 1 → Int) (h : S2048.Slices (fun _ => 0) S1) (h0 : start 0 = k) :
    Host.dynamicSlice S1 x start h (ix1 0) = x (ix1 ⟨k, hk⟩) := by
  have c0 : Host.clampedStart S2048 S1 h.1 start 0 = k := clamp_at _ _ _ k h0 (by show k + 1 ≤ 2048; omega)
  rw [Host.dynamicSlice_apply]
  congr 1
  funext a
  refine Fin.ext ?_
  match a with
  | ⟨0, _⟩ => show Host.clampedStart S2048 S1 h.1 start 0 + 0 = k; omega

include hk in
/-- A row of the outputs, written at the counter. -/
theorem update_row (x : S2048x16x512.Idx → α) (u : S1x16x512.Idx → α) (start : Fin 3 → Int)
    (h : S2048x16x512.Slices (fun _ => 0) S1x16x512) (h0 : start 0 = k) (h1 : start 1 = 0) (h2 : start 2 = 0)
    (t : Fin 2048) (p : Fin 16) (q : Fin 512) :
    Host.dynamicUpdateSlice x u start h (ix3 t p q) = if t.val = k then u (ix3 0 p q) else x (ix3 t p q) := by
  have c0 : Host.clampedStart S2048x16x512 S1x16x512 h.1 start 0 = k := clamp_at _ _ _ k h0 (by show k + 1 ≤ 2048; omega)
  have c1 : Host.clampedStart S2048x16x512 S1x16x512 h.1 start 1 = 0 := clamp_at _ _ _ 0 h1 (by show 0 + 16 ≤ 16; omega)
  have c2 : Host.clampedStart S2048x16x512 S1x16x512 h.1 start 2 = 0 := clamp_at _ _ _ 0 h2 (by show 0 + 512 ≤ 512; omega)
  rw [Host.dynamicUpdateSlice_apply]
  by_cases e : t.val = k
  · rw [if_pos e, dif_pos]
    · congr 1
      funext b
      refine Fin.ext ?_
      match b with
      | ⟨0, _⟩ => show t.val - Host.clampedStart S2048x16x512 S1x16x512 h.1 start 0 = 0; omega
      | ⟨1, _⟩ => show p.val - Host.clampedStart S2048x16x512 S1x16x512 h.1 start 1 = p.val; omega
      | ⟨2, _⟩ => show q.val - Host.clampedStart S2048x16x512 S1x16x512 h.1 start 2 = q.val; omega
    · intro a
      match a with
      | ⟨0, _⟩ =>
        show Host.clampedStart S2048x16x512 S1x16x512 h.1 start 0 ≤ t.val
          ∧ t.val < Host.clampedStart S2048x16x512 S1x16x512 h.1 start 0 + 1
        omega
      | ⟨1, _⟩ =>
        show Host.clampedStart S2048x16x512 S1x16x512 h.1 start 1 ≤ p.val
          ∧ p.val < Host.clampedStart S2048x16x512 S1x16x512 h.1 start 1 + 16
        have := p.isLt; omega
      | ⟨2, _⟩ =>
        show Host.clampedStart S2048x16x512 S1x16x512 h.1 start 2 ≤ q.val
          ∧ q.val < Host.clampedStart S2048x16x512 S1x16x512 h.1 start 2 + 512
        have := q.isLt; omega
  · rw [if_neg e, dif_neg]
    intro hin
    have h0' : Host.clampedStart S2048x16x512 S1x16x512 h.1 start 0 ≤ t.val
        ∧ t.val < Host.clampedStart S2048x16x512 S1x16x512 h.1 start 0 + 1 := hin 0
    omega

/-! ## The trip -/

variable (V0 : Valuation τ sig (Elt Ideal))

/-- The carried buffers: the inputs with the steps in front, the step numbers, the weights, the bias, the lengths, the hidden
    and cell vectors, the outputs. -/
abbrev tX : S2048x16x512.Idx → EReal := V0 (Proc.devRef .tc main_v24_0)
abbrev tI : S2048.Idx → BitVec 32 := V0 (Proc.devRef .tc main_v24_1)
abbrev tWi : S512x2048.Idx → EReal := V0 (Proc.devRef .tc main_v24_2)
abbrev tWh : S512x2048.Idx → EReal := V0 (Proc.devRef .tc main_v24_3)
abbrev tB : S2048.Idx → EReal := V0 (Proc.devRef .tc main_v24_4)
abbrev tL : S16.Idx → BitVec 32 := V0 (Proc.devRef .tc main_v24_5)
abbrev tH : S16x512.Idx → EReal := V0 (Proc.devRef .tc main_v24_7)
abbrev tC : S16x512.Idx → EReal := V0 (Proc.devRef .tc main_v24_8)
abbrev tY : S2048x16x512.Idx → EReal := V0 (Proc.devRef .tc main_v24_9)

/-- The state of row `p`. -/
def row (p : Fin 16) : Spec.Row × Spec.Row := (fun j => tH V0 (ix2 p j), fun j => tC V0 (ix2 p j))

/-- The gates' sums of row `p` in trip `k`. -/
def gate (p : Fin 16) (j : Fin 2048) : EReal :=
  Spec.gates (tWi V0) (tWh V0) (fun j => tB V0 (ix1 j)) (fun q => tX V0 (ix3 ⟨k, hk⟩ p q)) (row V0 p).1 j

/-- Whether trip `k` is a valid step of row `p`. -/
def on (p : Fin 16) : Bool := decide ((tI V0 (ix1 ⟨k, hk⟩)).toInt < (tL V0 (ix1 p)).toInt)

variable (hc : V0 (Proc.devRef .tc main_v24_6) = fun _ => Scf.iv 0#32 1#32 k)

include hk hc in
/-- The start on the steps' axis is the trip's number. -/
theorem start_at : (V0 (Proc.devRef .tc main_v24_6) (Shape.Idx.first h_S_) : BitVec 32).toInt = k := by
  rw [hc]; exact iv_toInt k hk

/-- The inputs' slice at the counter, as a matrix. -/
theorem slice_mat (x : S2048x16x512.Idx → EReal) (start : Fin 3 → Int) (h : S2048x16x512.Slices (fun _ => 0) S1x16x512)
    (h0 : start 0 = k) (h1 : start 1 = 0) (h2 : start 2 = 0) :
    shapeCast S16x512 (Host.dynamicSlice S1x16x512 x start h) shapeCasts_S1x16x512_S16x512
      = fun i => x (ix3 ⟨k, hk⟩ (i 0) (i 1)) := by
  have e : (Host.dynamicSlice S1x16x512 x start h) = fun i => x (ix3 ⟨k, hk⟩ (i 1) (i 2)) := by
    funext i
    obtain ⟨z, p, q, rfl⟩ : ∃ (z : Fin 1) (p : Fin 16) (q : Fin 512), i = ix3 z p q := ⟨i 0, i 1, i 2, (ix3_eta i).symm⟩
    obtain rfl : z = 0 := Subsingleton.elim _ _
    exact slice_row k hk x _ h h0 h1 h2 p q
  rw [e]
  funext i
  obtain ⟨p, q, rfl⟩ : ∃ (p : Fin 16) (q : Fin 512), i = ix2 p q := ⟨i 0, i 1, (ix2_eta i).symm⟩
  pointwise []

/-- The step number's slice at the counter. -/
theorem slice_step (x : S2048.Idx → BitVec 32) (start : Fin 1 → Int) (h : S2048.Slices (fun _ => 0) S1) (h0 : start 0 = k) :
    Host.dynamicSlice S1 x start h = fun _ => x (ix1 ⟨k, hk⟩) := by
  funext i
  obtain rfl : i = ix1 0 := by funext a; match a with | ⟨0, _⟩ => exact Subsingleton.elim (α := Fin 1) _ _
  exact slice_one k hk x start h h0

include hc in
theorem v54_at (p : Fin 16) (j : Fin 2048) :
    (res_main_while0b_v54 V0 : S16x2048.Idx → EReal) (ix2 p j) = gate k hk V0 p j := by
  unfold res_main_while0b_v54
  rw [slice_mat k hk _ _ _ (start_at k hk V0 hc) rfl rfl]
  pointwise []
  rfl

include hc in
theorem v74_at (p : Fin 16) (j : Fin 512) :
    (res_main_while0b_v74 V0 : S16x512.Idx → EReal) (ix2 p j) = Spec.newC (gate k hk V0 p) (row V0 p).2 j := by
  unfold res_main_while0b_v74
  pointwise []
  simp only [v54_at k hk V0 hc]
  rfl

include hc in
theorem v82_at (p : Fin 16) (j : Fin 512) :
    (res_main_while0b_v82 V0 : S16x512.Idx → EReal) (ix2 p j) = Spec.newH (gate k hk V0 p) (row V0 p).2 j := by
  unfold res_main_while0b_v82
  pointwise []
  simp only [v54_at k hk V0 hc, v74_at k hk V0 hc]
  rfl

include hc in
theorem v85_at (p : Fin 16) :
    (res_main_while0b_v85 V0 : S16x1.Idx → BitVec 1) (ix2 p 0) = BitVec.ofBool (on k hk V0 p) := by
  unfold res_main_while0b_v85
  rw [slice_step k hk _ _ _ (start_at k hk V0 hc)]
  pointwise [on]
  rfl

include hc in
theorem trip_h (p : Fin 16) (j : Fin 512) :
    tH (STEP V0) (ix2 p j) = (Spec.step (gate k hk V0 p) (on k hk V0 p) (row V0 p)).1 j := by
  have e : tH (STEP V0) = step_main_v24_7 V0 := STEP_main_v24_7 V0
  rw [e]
  unfold step_main_v24_7
  rw [id_eq]
  pointwise []
  rw [v85_at k hk V0 hc, v82_at k hk V0 hc]
  cases on k hk V0 p <;> rfl

include hc in
theorem trip_c (p : Fin 16) (j : Fin 512) :
    tC (STEP V0) (ix2 p j) = (Spec.step (gate k hk V0 p) (on k hk V0 p) (row V0 p)).2 j := by
  have e : tC (STEP V0) = step_main_v24_8 V0 := STEP_main_v24_8 V0
  rw [e]
  unfold step_main_v24_8
  rw [id_eq]
  pointwise []
  rw [v85_at k hk V0 hc, v74_at k hk V0 hc]
  cases on k hk V0 p <;> rfl

include hc in
/-- A trip is a step of every row, -/
theorem trip_row (p : Fin 16) : row (STEP V0) p = Spec.step (gate k hk V0 p) (on k hk V0 p) (row V0 p) :=
  Prod.ext (funext fun j => trip_h k hk V0 hc p j) (funext fun j => trip_c k hk V0 hc p j)

include hc in
/-- and writes the row of outputs at the counter. -/
theorem trip_y (t : Fin 2048) (p : Fin 16) (j : Fin 512) :
    tY (STEP V0) (ix3 t p j)
      = if t.val = k then Spec.emit (gate k hk V0 p) (on k hk V0 p) (row V0 p) j else tY V0 (ix3 t p j) := by
  have e : tY (STEP V0) = step_main_v24_9 V0 := STEP_main_v24_9 V0
  rw [e]
  unfold step_main_v24_9
  rw [id_eq]
  refine (update_row k hk _ _ _ _ (start_at k hk V0 hc) rfl rfl t p j).trans ?_
  congr 1
  pointwise []
  rw [v85_at k hk V0 hc, v82_at k hk V0 hc]
  cases on k hk V0 p
  · rfl
  · rfl

end

end Cert.Proof.LR

end
-- ==== Proof.RefRead.lean ====
/-
  What the reference's loop carries at its entry, and what the reference reads out after the loop: each buffer at an element,
  by the sequence that the argsort puts at each row.
-/
module

public import proofs.«01_k».proof.Proof.RefFrame
public import proofs.«01_k».proof.Proof.RefPerm
public import proofs.«01_k».proof.Proof.RefStep

@[expose] public section

set_option maxRecDepth 65536
set_option maxHeartbeats 1000000

open Idealize Idealize.ShloMosaic Idealize.ShloMosaic.TcCoe Idealize.ShloMosaic.StableHlo Idealize.SL.Sem

namespace Cert.Proof.LR

open Cert.ReferenceIdeal Cert.ReferenceIdeal.Gen Cert.ReferenceIdeal.Value

noncomputable section

section Reads

variable (V : Valuation τ sig (Elt Ideal))

/-- The lengths: the sums of the mask's bits. -/
theorem read_v1 : (after hostOps0 V (Proc.devRef .tc main_v1) : S16.Idx → BitVec 32)
    = Host.reduce IntOp.addi (extui 32 (V (Proc.devRef .tc main_arg1) : S16x2048.Idx → BitVec 1) natLt_1_32) (constantI S_ 32 0#32)
        reducesTo_S16x2048_S16_d1 h_S_ := by
  after_reads_simp
  try rfl

/-- The order, the argsort of the key; -/
theorem read_v3 : (after hostOps0_1 V (Proc.devRef .tc main_v3) : S16.Idx → BitVec 32)
    = (Host.sort2 S16 0 comparator_i32_i32_d0 (V (Proc.devRef .tc main_v2) : S16.Idx → BitVec 32) (iotaInDim S16 32 0)).2 := by
  after_reads_simp
  try rfl

/-- and the argsort of the order. -/
theorem read_v4 : (after hostOps0_2 V (Proc.devRef .tc main_v4) : S16.Idx → BitVec 32)
    = (Host.sort2 S16 0 comparator_i32_i32_d0 (V (Proc.devRef .tc main_v3) : S16.Idx → BitVec 32) (iotaInDim S16 32 0)).2 := by
  after_reads_simp
  try rfl

theorem read_x : tX (after hostOps0_3 V) = transpose S2048x16x512 [1, 0, 2]
    (Host.gather gather_S16x2048x512_S16x1_S16x2048x512_12_0_n_n_0_1_12048512 (V (Proc.devRef .tc main_arg0) : S16x2048x512.Idx → EReal)
      (starts (V (Proc.devRef .tc main_v3)))) transposes_S16x2048x512_S2048x16x512_1_0_2 := by
  unfold tX
  after_reads_simp
  try rfl

theorem read_i : tI (after hostOps0_3 V) = iotaInDim S2048 32 0 := by
  unfold tI
  after_reads_simp
  try rfl

theorem read_wi : tWi (after hostOps0_3 V) = V (Proc.devRef .tc main_arg2) := by
  unfold tWi
  after_reads_simp
  try rfl

theorem read_wh : tWh (after hostOps0_3 V) = V (Proc.devRef .tc main_arg3) := by
  unfold tWh
  after_reads_simp
  try rfl

theorem read_b : tB (after hostOps0_3 V) = V (Proc.devRef .tc main_arg4) := by
  unfold tB
  after_reads_simp
  try rfl

theorem read_l : tL (after hostOps0_3 V) = Host.gather gather_S16_S16x1_S16_n_0_n_n_0_1_1 (V (Proc.devRef .tc main_v1) : S16.Idx → BitVec 32)
    (starts (V (Proc.devRef .tc main_v3))) := by
  unfold tL
  after_reads_simp
  try rfl

theorem read_h : tH (after hostOps0_3 V) = broadcastInDim S16x512 ![] bcast_S_S16x512 (constant (F := Ideal) S_ .f32 0x00000000#32) := by
  unfold tH
  after_reads_simp
  try rfl

theorem read_c : tC (after hostOps0_3 V) = broadcastInDim S16x512 ![] bcast_S_S16x512 (constant (F := Ideal) S_ .f32 0x00000000#32) := by
  unfold tC
  after_reads_simp
  try rfl

theorem read_v32 : (after hostOps0_4 V (Proc.devRef .tc main_v32) : S16x2048x512.Idx → EReal)
    = Host.gather gather_S16x2048x512_S16x1_S16x2048x512_12_0_n_n_0_1_12048512
        (transpose S16x2048x512 [1, 0, 2] (tY V) transposes_S2048x16x512_S16x2048x512_1_0_2) (starts (V (Proc.devRef .tc main_v4))) := by
  after_reads_simp
  try rfl

theorem read_v39 : (after hostOps0_4 V (Proc.devRef .tc main_v39) : S16x512.Idx → EReal)
    = Host.gather gather_S16x512_S16x1_S16x512_1_0_n_n_0_1_1512 (tH V) (starts (V (Proc.devRef .tc main_v4))) := by
  after_reads_simp
  try rfl

theorem read_v46 : (after hostOps0_4 V (Proc.devRef .tc main_v46) : S16x512.Idx → EReal)
    = Host.gather gather_S16x512_S16x1_S16x512_1_0_n_n_0_1_1512 (tC V) (starts (V (Proc.devRef .tc main_v4))) := by
  after_reads_simp
  try rfl

end Reads

/-! ## The entry -/

variable (m : (ℓ : Loc nD τ sig) → Buf (Elt Ideal) ℓ) (c : Dev nD)

/-- The arguments. -/
abbrev aX : S16x2048x512.Idx → EReal := m ((c.tc : Thread nD τ).loc main_arg0)
abbrev aM : S16x2048.Idx → BitVec 1 := m ((c.tc : Thread nD τ).loc main_arg1)
abbrev aWi : S512x2048.Idx → EReal := m ((c.tc : Thread nD τ).loc main_arg2)
abbrev aWh : S512x2048.Idx → EReal := m ((c.tc : Thread nD τ).loc main_arg3)
abbrev aB : S2048.Idx → EReal := m ((c.tc : Thread nD τ).loc main_arg4)

/-- The contents after the mask's sums, -/
def W1 : Valuation τ sig (Elt Ideal) := after hostOps0 (entryContents [] m c)
/-- after the argsort, -/
def W2 : Valuation τ sig (Elt Ideal) := after hostOps0_1 (W1 m c)
/-- and after its argsort. -/
def W3 : Valuation τ sig (Elt Ideal) := after hostOps0_2 (W2 m c)

theorem entry_eq : entryContents preI m c = after hostOps0_3 (W3 m c) := rfl

/-- The sequence at row `p`. -/
def seq (p : Fin 16) : Fin 16 := order (W1 m c (Proc.devRef .tc main_v2)) p
/-- The row that sequence `p` is at. -/
def pos (p : Fin 16) : Fin 16 := order (W2 m c (Proc.devRef .tc main_v3)) p

theorem v3_at (p : Fin 16) : (W2 m c (Proc.devRef .tc main_v3) : S16.Idx → BitVec 32) (ix1 p) = BitVec.ofNat 32 (seq m c p).val := by
  unfold W2
  rw [read_v3]
  exact argsort_at _ p

theorem seq_pos (p : Fin 16) : seq m c (pos m c p) = p := order_order _ _ (v3_at m c) p

theorem v3_at3 (p : Fin 16) : (W3 m c (Proc.devRef .tc main_v3) : S16.Idx → BitVec 32) (ix1 p) = BitVec.ofNat 32 (seq m c p).val := by
  unfold W3
  rw [after_of_writes_sub hostOps0_2 _ hostOps0_2_writes (by decide +kernel)]
  exact v3_at m c p

theorem v4_at (p : Fin 16) : (W3 m c (Proc.devRef .tc main_v4) : S16.Idx → BitVec 32) (ix1 p) = BitVec.ofNat 32 (pos m c p).val := by
  unfold W3
  rw [read_v4]
  exact argsort_at _ p

theorem v1_at : (W3 m c (Proc.devRef .tc main_v1) : S16.Idx → BitVec 32)
    = Host.reduce IntOp.addi (extui 32 (aM m c) natLt_1_32) (constantI S_ 32 0#32) reducesTo_S16x2048_S16_d1 h_S_ := by
  unfold W3
  rw [after_of_writes_sub hostOps0_2 _ hostOps0_2_writes (by decide +kernel)]
  unfold W2
  rw [after_of_writes_sub hostOps0_1 _ hostOps0_1_writes (by decide +kernel)]
  unfold W1
  rw [read_v1]
  rfl

theorem arg_at (b : Ref sig .tc) (h0 : b ∉ hostOps0_W) (h1 : b ∉ hostOps0_1_W) (h2 : b ∉ hostOps0_2_W) :
    W3 m c (Proc.devRef .tc b) = m ((c.tc : Thread nD τ).loc b) := by
  unfold W3
  rw [after_of_writes_sub hostOps0_2 _ hostOps0_2_writes h2]
  unfold W2
  rw [after_of_writes_sub hostOps0_1 _ hostOps0_1_writes h1]
  unfold W1
  rw [after_of_writes_sub hostOps0 _ hostOps0_writes h0]
  rfl

theorem entry_x (t : Fin 2048) (p : Fin 16) (j : Fin 512) :
    tX (entryContents preI m c) (ix3 t p j) = aX m c (ix3 (seq m c p) t j) := by
  rw [entry_eq, read_x]
  pointwise []
  refine (take_seq _ _ p (seq m c p) t j (starts_at _ p _ (v3_at3 m c p))).trans ?_
  rw [arg_at m c main_arg0 (by decide +kernel) (by decide +kernel) (by decide +kernel)]

theorem entry_i (t : Fin 2048) : tI (entryContents preI m c) (ix1 t) = BitVec.ofNat 32 t.val := by
  rw [entry_eq, read_i]
  rfl

theorem entry_wi : tWi (entryContents preI m c) = aWi m c := by
  rw [entry_eq, read_wi]
  exact arg_at m c main_arg2 (by decide +kernel) (by decide +kernel) (by decide +kernel)

theorem entry_wh : tWh (entryContents preI m c) = aWh m c := by
  rw [entry_eq, read_wh]
  exact arg_at m c main_arg3 (by decide +kernel) (by decide +kernel) (by decide +kernel)

theorem entry_b : tB (entryContents preI m c) = aB m c := by
  rw [entry_eq, read_b]
  exact arg_at m c main_arg4 (by decide +kernel) (by decide +kernel) (by decide +kernel)

/-- The length of sequence `p`. -/
def len (p : Fin 16) : ℕ := (Finset.univ.filter fun t : Fin 2048 => aM m c (ix2 p t) = 1#1).card

theorem len_le (p : Fin 16) : len m c p ≤ 2048 := by
  unfold len
  exact (Finset.card_filter_le _ _).trans (by simp)

theorem entry_l (p : Fin 16) : tL (entryContents preI m c) (ix1 p) = BitVec.ofNat 32 (len m c (seq m c p)) := by
  rw [entry_eq, read_l]
  refine (take_one _ _ p (seq m c p) (starts_at _ p _ (v3_at3 m c p))).trans ?_
  rw [v1_at]
  apply BitVec.eq_of_toNat_eq
  refine (Predicate.toNat_reduce_count_cols (by decide) (aM m c) natLt_1_32 reducesTo_S16x2048_S16_d1 h_S_ (ix1 (seq m c p))).trans ?_
  have hl := len_le m c (seq m c p)
  rw [BitVec.toNat_ofNat, Nat.mod_eq_of_lt (by omega)]
  unfold len
  congr 1

theorem entry_row (p : Fin 16) : row (entryContents preI m c) p = (fun _ => 0, fun _ => 0) := by
  unfold row
  rw [entry_eq, read_h, read_c]
  refine Prod.ext (funext fun j => ?_) (funext fun j => ?_)
  · pointwise []
  · pointwise []

end

end Cert.Proof.LR

end
-- ==== Proof.RefLoop.lean ====
/-
  The reference's loop and its results, over the extended reals: before trip `k` every row is at the recursion's state of the
  sequence there, and the reference's three results are the recursion's outputs, last hidden and last cell vectors.
-/
module

public import proofs.«01_k».proof.Proof.RefRead

@[expose] public section

set_option maxRecDepth 65536
set_option maxHeartbeats 1000000

open Idealize Idealize.ShloMosaic Idealize.ShloMosaic.TcCoe Idealize.ShloMosaic.StableHlo Idealize.SL.Sem

namespace Cert.Proof.LR

open Cert.ReferenceIdeal Cert.ReferenceIdeal.Gen Cert.ReferenceIdeal.Value

noncomputable section

/-- Step `k` lies below the number of valid steps, of a prefix, exactly if it is valid. -/
theorem lt_count (f : Fin 2048 → Prop) [DecidablePred f] (hf : ∀ a b : Fin 2048, a ≤ b → f b → f a) (k : Fin 2048) :
    k.val < (Finset.univ.filter f).card ↔ f k := by
  constructor
  · intro h
    by_contra hk
    have hsub : Finset.univ.filter f ⊆ Finset.Iio k := fun a ha => by
      rw [Finset.mem_Iio]
      by_contra hle
      exact hk (hf k a (not_lt.mp hle) (Finset.mem_filter.mp ha).2)
    have := Finset.card_le_card hsub
    rw [Fin.card_Iio] at this
    omega
  · intro h
    have hsub : Finset.Iic k ⊆ Finset.univ.filter f := fun a ha =>
      Finset.mem_filter.mpr ⟨Finset.mem_univ _, hf a k (Finset.mem_Iic.mp ha) h⟩
    have := Finset.card_le_card hsub
    rw [Fin.card_Iic] at this
    omega

theorem ofNat_toInt (n : ℕ) (hn : n ≤ 2048) : (BitVec.ofNat 32 n).toInt = n := by
  rw [BitVec.toInt_eq_toNat_of_lt] <;> simp [BitVec.toNat_ofNat] <;> omega

variable (m : (ℓ : Loc nD τ sig) → Buf (Elt Ideal) ℓ) (c : Dev nD)

/-- The state of a sequence before a step, and its output at the step. -/
abbrev spec (p : Fin 16) (t : ℕ) : Spec.Row × Spec.Row := Spec.state (aX m c) (aM m c) (aWi m c) (aWh m c) (aB m c) p t
abbrev specOut (p : Fin 16) (t : ℕ) : Spec.Row := Spec.output (aX m c) (aM m c) (aWi m c) (aWh m c) (aB m c) p t

/-- The carried buffers before trip `k`. -/
def carried (k : ℕ) : Valuation τ sig (Elt Ideal) := STEP^[k] (entryContents preI m c)

theorem carried_succ (k : ℕ) : carried m c (k + 1) = STEP (carried m c k) := Function.iterate_succ_apply' _ _ _

theorem atK_carried (k : ℕ) (b : Ref sig .tc) (hb : b ∈ carriedRefs) :
    atK m k c (Proc.devRef .tc b) = carried m c k (Proc.devRef .tc b) := atK_agree m c k b hb

theorem carried_ctr (k : ℕ) : carried m c k (Proc.devRef .tc main_v24_6) = fun _ => Scf.iv 0#32 1#32 k :=
  (atK_carried m c k main_v24_6 (by decide)).symm.trans (atK_ctr m c k)

/-- What a trip does not write is as at the entry. -/
theorem carried_keep (b : Ref sig .tc)
    (hb : ∀ V : Valuation τ sig (Elt Ideal), STEP V (Proc.devRef .tc b) = V (Proc.devRef .tc b)) :
    ∀ k, carried m c k (Proc.devRef .tc b) = entryContents preI m c (Proc.devRef .tc b)
  | 0 => rfl
  | k + 1 => by rw [carried_succ, hb]; exact carried_keep b hb k

theorem carried_x (k : ℕ) : tX (carried m c k) = tX (entryContents preI m c) := carried_keep m c main_v24_0 STEP_main_v24_0 k
theorem carried_i (k : ℕ) : tI (carried m c k) = tI (entryContents preI m c) := carried_keep m c main_v24_1 STEP_main_v24_1 k
theorem carried_wi (k : ℕ) : tWi (carried m c k) = tWi (entryContents preI m c) := carried_keep m c main_v24_2 STEP_main_v24_2 k
theorem carried_wh (k : ℕ) : tWh (carried m c k) = tWh (entryContents preI m c) := carried_keep m c main_v24_3 STEP_main_v24_3 k
theorem carried_b (k : ℕ) : tB (carried m c k) = tB (entryContents preI m c) := carried_keep m c main_v24_4 STEP_main_v24_4 k
theorem carried_l (k : ℕ) : tL (carried m c k) = tL (entryContents preI m c) := carried_keep m c main_v24_5 STEP_main_v24_5 k

theorem at'_eq (k : ℕ) (hk : k < 2048) : Spec.at' k = ⟨k, hk⟩ := Fin.ext (Nat.mod_eq_of_lt hk)

/-- The gates' sums of row `p` in trip `k` are those of its sequence at step `k`. -/
theorem gate_eq (k : ℕ) (hk : k < 2048) (p : Fin 16) : gate k hk (carried m c k) p
    = Spec.gates (aWi m c) (aWh m c) (fun j => aB m c (ix1 j)) (Spec.input (aX m c) (seq m c p) k) (row (carried m c k) p).1 := by
  funext j
  unfold gate
  have hx : (fun q => tX (carried m c k) (ix3 ⟨k, hk⟩ p q)) = Spec.input (aX m c) (seq m c p) k := by
    funext q
    rw [carried_x, entry_x]
    unfold Spec.input
    rw [at'_eq k hk]
  rw [hx, carried_wi, carried_wh, carried_b, entry_wi, entry_wh, entry_b]

/-- Trip `k` is a valid step of row `p` exactly if the mask's bit says so. -/
theorem on_eq (hp : Spec.Prefix (aM m c)) (k : ℕ) (hk : k < 2048) (p : Fin 16) :
    on k hk (carried m c k) p = Spec.bit (aM m c) (seq m c p) k := by
  have hl := len_le m c (seq m c p)
  have hd : ∀ a b : Fin 2048, a ≤ b → aM m c (ix2 (seq m c p) b) = 1#1 → aM m c (ix2 (seq m c p) a) = 1#1 := by
    intro a b hab hb
    have h : a.val + (b.val - a.val) = b.val := by have : a.val ≤ b.val := hab; omega
    have h1 : Spec.bit (aM m c) (seq m c p) (a.val + (b.val - a.val)) = true := by
      rw [h]; unfold Spec.bit; rw [at'_eq _ b.isLt]; exact decide_eq_true hb
    have h2 := hp.down (seq m c p) a.val (b.val - a.val) (by rw [h]; exact b.isLt) h1
    unfold Spec.bit at h2
    rw [at'_eq _ a.isLt] at h2
    exact of_decide_eq_true h2
  have hc := lt_count (fun t => aM m c (ix2 (seq m c p) t) = 1#1) hd ⟨k, hk⟩
  unfold on Spec.bit
  rw [carried_i, carried_l, entry_i, entry_l, ofNat_toInt _ hk.le, ofNat_toInt _ hl, at'_eq k hk]
  refine decide_eq_decide.mpr ?_
  rw [Int.ofNat_lt]
  exact hc

/-- Before trip `k`, row `p` is at its sequence's state before step `k`. -/
theorem carried_row (hp : Spec.Prefix (aM m c)) (p : Fin 16) : ∀ k, k ≤ 2048 → row (carried m c k) p = spec m c (seq m c p) k
  | 0, _ => entry_row m c p
  | k + 1, hk => by
    rw [carried_succ, trip_row k hk (carried m c k) (carried_ctr m c k) p, gate_eq, on_eq m c hp, carried_row hp p k (by omega)]
    rfl

/-- The outputs so far. -/
theorem carried_y (hp : Spec.Prefix (aM m c)) (t : Fin 2048) (p : Fin 16) (j : Fin 512) :
    ∀ k, k ≤ 2048 → t.val < k → tY (carried m c k) (ix3 t p j) = specOut m c (seq m c p) t.val j
  | 0, _, h => absurd h (Nat.not_lt_zero _)
  | k + 1, hk, h => by
    rw [carried_succ, trip_y k hk (carried m c k) (carried_ctr m c k)]
    by_cases e : t.val = k
    · rw [if_pos e, gate_eq, on_eq m c hp, carried_row m c hp p k (by omega), e]
      rfl
    · rw [if_neg e]
      exact carried_y hp t p j k (by omega) (by omega)

/-! ## The results -/

/-- The buffers after the loop. -/
def done : Valuation τ sig (Elt Ideal) := after condOps (atK m 2048 c)

theorem final_eq : finalContents condOps preI bodyI postI 2048 m c = after hostOps0_4 (done m c) := rfl

theorem done_carried (b : Ref sig .tc) (hb : b ∈ carriedRefs) (hw : b ∉ condOps_W) :
    done m c (Proc.devRef .tc b) = carried m c 2048 (Proc.devRef .tc b) :=
  (after_of_writes_sub condOps _ condOps_writes hw).trans (atK_carried m c 2048 b hb)

theorem done_v4 (p : Fin 16) : (done m c (Proc.devRef .tc main_v4) : S16.Idx → BitVec 32) (ix1 p) = BitVec.ofNat 32 (pos m c p).val := by
  have h : done m c (Proc.devRef .tc main_v4) = W3 m c (Proc.devRef .tc main_v4) := by
    refine (cond_loop_keeps m main_v4 (by decide +kernel) c 2048).trans ?_
    rw [entry_eq, after_of_writes_sub hostOps0_3 _ hostOps0_3_writes (by decide +kernel)]
  rw [h]
  exact v4_at m c p

theorem done_starts (p : Fin 16) : starts (done m c (Proc.devRef .tc main_v4)) (ix2 p 0) = BitVec.ofNat 32 (pos m c p).val :=
  starts_at _ p _ (done_v4 m c p)

/-- The first result: the outputs of every sequence. -/
theorem final_y (hp : Spec.Prefix (aM m c)) (p : Fin 16) (t : Fin 2048) (j : Fin 512) :
    (finalContents condOps preI bodyI postI 2048 m c (Proc.devRef .tc main_v32) : S16x2048x512.Idx → EReal) (ix3 p t j)
      = specOut m c p t.val j := by
  rw [final_eq, read_v32]
  refine (take_seq _ _ p (pos m c p) t j (done_starts m c p)).trans ?_
  pointwise []
  have h : tY (done m c) = tY (carried m c 2048) := done_carried m c main_v24_9 (by decide) (by decide +kernel)
  refine (congrFun h _).trans ?_
  rw [carried_y m c hp t (pos m c p) j 2048 le_rfl t.isLt, seq_pos]

theorem done_row (hp : Spec.Prefix (aM m c)) (p : Fin 16) : row (done m c) (pos m c p) = spec m c p 2048 := by
  have h7 : tH (done m c) = tH (carried m c 2048) := done_carried m c main_v24_7 (by decide) (by decide +kernel)
  have h8 : tC (done m c) = tC (carried m c 2048) := done_carried m c main_v24_8 (by decide) (by decide +kernel)
  have h := carried_row m c hp (pos m c p) 2048 le_rfl
  rw [seq_pos] at h
  refine Eq.trans ?_ h
  unfold row
  rw [h7, h8]

theorem row_1 (X : Valuation τ sig (Elt Ideal)) (p : Fin 16) (j : Fin 512) : (row X p).1 j = tH X (ix2 p j) := rfl
theorem row_2 (X : Valuation τ sig (Elt Ideal)) (p : Fin 16) (j : Fin 512) : (row X p).2 j = tC X (ix2 p j) := rfl

/-- The second: the last hidden vectors. -/
theorem final_h (hp : Spec.Prefix (aM m c)) (p : Fin 16) (j : Fin 512) :
    (finalContents condOps preI bodyI postI 2048 m c (Proc.devRef .tc main_v39) : S16x512.Idx → EReal) (ix2 p j)
      = (spec m c p 2048).1 j := by
  rw [final_eq, read_v39]
  refine (take_row _ _ p (pos m c p) j (done_starts m c p)).trans ?_
  rw [← done_row m c hp p, row_1]

/-- The third: the last cell vectors. -/
theorem final_c (hp : Spec.Prefix (aM m c)) (p : Fin 16) (j : Fin 512) :
    (finalContents condOps preI bodyI postI 2048 m c (Proc.devRef .tc main_v46) : S16x512.Idx → EReal) (ix2 p j)
      = (spec m c p 2048).2 j := by
  rw [final_eq, read_v46]
  refine (take_row _ _ p (pos m c p) j (done_starts m c p)).trans ?_
  rw [← done_row m c hp p, row_2]

end

end Cert.Proof.LR

end
-- ==== Proof.Values.lean ====
/-
  The value claim: on a mask whose rows are prefixes, kernel and reference both end with the recursion's outputs, last hidden
  vectors and last cell vectors, over the extended reals.
-/
module

public import proofs.«01_k».proof.Defs
public import proofs.«01_k».proof.Proof.Final
public import proofs.«01_k».proof.Proof.Frames
public import proofs.«01_k».proof.Proof.RefLoop

@[expose] public section

set_option maxRecDepth 65536
set_option maxHeartbeats 1000000

open Idealize Idealize.ShloMosaic Idealize.ShloMosaic.TcCoe Idealize.ShloMosaic.StableHlo Idealize.SL.Sem

/-! ## The precondition -/

namespace Cert.Proof

theorem pre_facts : Cert.Pre_steps_first.Facts where
  slices_S16x2048_S16x2047_0_0 := by decide
  slices_S16x2048_S16x2047_0_1 := by decide

/-- A valid step after one that is not is what the precondition excludes. -/
theorem prefix_of_steps_first (mk : Cert.Pre_steps_first.S16x2048.Idx → BitVec 1)
    (h : ∀ (p : Fin 16) (t : Fin 2047),
      (mk (ix2 p ⟨t.val, by omega⟩)) ||| ~~~ (mk (ix2 p ⟨t.val + 1, by omega⟩)) = 1#1) : Spec.Prefix mk := by
  intro p t ht hb
  have h0 := h p ⟨t, by omega⟩
  unfold Spec.bit at hb ⊢
  have e1 : Spec.at' (t + 1) = ⟨t + 1, ht⟩ := Fin.ext (Nat.mod_eq_of_lt ht)
  have e0 : Spec.at' t = ⟨t, by omega⟩ := Fin.ext (Nat.mod_eq_of_lt (by omega))
  rw [e1, decide_eq_true_eq] at hb
  rw [e0, decide_eq_true_eq]
  dsimp only at h0
  rw [hb] at h0
  simpa using h0

end Cert.Proof

namespace Cert.Proof.LK

open Cert.KernelIdeal Cert.KernelIdeal.Gen Idealize.ShloMosaic.Pipeline

noncomputable section

variable (m : (ℓ : Loc nD τ sig) → Buf (Elt Ideal) ℓ)

theorem mask_prefix (h : Cert.Pre_KernelIdeal_steps_first (hPre_steps_first := Cert.Proof.pre_facts) m) (c : Dev nD) :
    Spec.Prefix (mask m c) := by
  refine Cert.Proof.prefix_of_steps_first _ fun p t => ?_
  have h1 := congrFun (h c) (ix2 p t)
  rw [← h1]
  pointwise [Cert.Pre_steps_first.fn]
  simp only [IntOp.ori, Nat.add_comm 1]

/-- The kernel ends with the recursion's values, its arguments kept. -/
theorem values (ρ : Dev nD → PrngReg) (hp : ∀ c, Spec.Prefix (mask m c)) :
    θ_run (defs (F := Ideal)) (onTc (τ := τ) (main (F := Ideal))) ⟨m, fun _ => 0, ρ⟩ (fun r => ∀ c : Dev nD,
      r.2.mem ((c.tc : Thread nD τ).loc main_v5_0) = resY m c
      ∧ r.2.mem ((c.tc : Thread nD τ).loc main_v5_1) = resH m c
      ∧ r.2.mem ((c.tc : Thread nD τ).loc main_v5_2) = resC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (arr_y m c (hp c)), ((h.1 c).1 6).trans (arr_h m c (hp c)),
    ((h.1 c).1 7).trans (arr_c m c (hp c)), args_kept m r h.1 c⟩) (launch m ρ (countOk_ideal m))

end

end Cert.Proof.LK

namespace Cert.Proof.LR

open Cert.ReferenceIdeal Cert.ReferenceIdeal.Gen Cert.ReferenceIdeal.Value

noncomputable section

variable (m' : (ℓ : Loc nD τ sig) → Buf (Elt Ideal) ℓ)
variable (m : (ℓ : Loc Cert.KernelIdeal.nD Cert.KernelIdeal.τ Cert.KernelIdeal.sig) → Buf (Elt Ideal) ℓ)

/-- The two programs' arguments agree on a device. -/
def Same (c : Dev nD) : Prop :=
  aX m' c = LK.aX m c ∧ aM m' c = LK.mask m c ∧ aWi m' c = LK.aWi m c ∧ aWh m' c = LK.aWh m c ∧ aB m' c = LK.aB m c

variable {m' m}

theorem Same.spec {c : Dev nD} (h : Same m' m c) (p : Fin 16) (n : ℕ) : spec m' c p n = LK.spec m c p n := by
  obtain ⟨h0, h1, h2, h3, h4⟩ := h
  unfold LR.spec LK.spec
  rw [h0, h1, h2, h3, h4]

theorem Same.specOut {c : Dev nD} (h : Same m' m c) (p : Fin 16) (n : ℕ) : specOut m' c p n = LK.specOut m c p n := by
  obtain ⟨h0, h1, h2, h3, h4⟩ := h
  unfold LR.specOut LK.specOut
  rw [h0, h1, h2, h3, h4]

theorem Same.y {c : Dev nD} (h : Same m' m c) (hp : Spec.Prefix (aM m' c)) :
    (finalContents condOps preI bodyI postI 2048 m' c (Proc.devRef .tc main_v32) : S16x2048x512.Idx → EReal) = LK.resY m c := by
  funext i
  obtain ⟨p, t, j, rfl⟩ : ∃ (p : Fin 16) (t : Fin 2048) (j : Fin 512), i = ix3 p t j := ⟨i 0, i 1, i 2, (ix3_eta i).symm⟩
  rw [final_y m' c hp, h.specOut]
  rfl

theorem resH_at (c : Dev nD) (p : Fin 16) (j : Fin 512) : LK.resH m c (ix2 p j) = (LK.spec m c p 2048).1 j := by
  unfold LK.resH
  rfl

theorem resC_at (c : Dev nD) (p : Fin 16) (j : Fin 512) : LK.resC m c (ix2 p j) = (LK.spec m c p 2048).2 j := by
  unfold LK.resC
  rfl

theorem Same.h {c : Dev nD} (h : Same m' m c) (hp : Spec.Prefix (aM m' c)) :
    (finalContents condOps preI bodyI postI 2048 m' c (Proc.devRef .tc main_v39) : S16x512.Idx → EReal) = LK.resH m c := by
  funext i
  obtain ⟨p, j, rfl⟩ : ∃ (p : Fin 16) (j : Fin 512), i = ix2 p j := ⟨i 0, i 1, (ix2_eta i).symm⟩
  rw [final_h m' c hp, h.spec, resH_at]

theorem Same.c {c : Dev nD} (h : Same m' m c) (hp : Spec.Prefix (aM m' c)) :
    (finalContents condOps preI bodyI postI 2048 m' c (Proc.devRef .tc main_v46) : S16x512.Idx → EReal) = LK.resC m c := by
  funext i
  obtain ⟨p, j, rfl⟩ : ∃ (p : Fin 16) (j : Fin 512), i = ix2 p j := ⟨i 0, i 1, (ix2_eta i).symm⟩
  rw [final_c m' c hp, h.spec, resC_at]

/-- The reference ends with the same values, its arguments kept. -/
theorem values (ρ : Dev nD → PrngReg) (hs : ∀ c, Same m' m c) (hp : ∀ c, Spec.Prefix (aM m' c)) :
    θ_run (defs (F := Ideal)) (onTc (τ := τ) (main (F := Ideal))) ⟨m', fun _ => 0, ρ⟩ (fun r => ∀ c : Dev nD,
      r.2.mem ((c.tc : Thread nD τ).loc main_v32) = LK.resY m c
      ∧ r.2.mem ((c.tc : Thread nD τ).loc main_v39) = LK.resH m c
      ∧ r.2.mem ((c.tc : Thread nD τ).loc main_v46) = LK.resC m c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)) :=
  (θ_run defs _ _).mono (fun r h c => ⟨(h c main_v32 rfl).trans ((hs c).y (hp c)), (h c main_v39 rfl).trans ((hs c).h (hp c)),
    (h c main_v46 rfl).trans ((hs c).c (hp c)), args_kept m' c r h⟩) (run_fold m' ρ)

end

end Cert.Proof.LR

namespace Cert.Proof

/-- Kernel and reference end with equal results. -/
theorem algebraic : Cert.algebraic_KernelIdeal_ReferenceIdeal_pre_steps_first (hKernelIdeal := Cert.KernelIdeal.Gen.facts)
    (hReferenceIdeal := Cert.ReferenceIdeal.Gen.facts) (hPre_steps_first := pre_facts) := by
  intro m g m' g' hpre hargs
  have hp := LK.mask_prefix m hpre
  have hs : ∀ c, LR.Same m' m c := hargs
  have hp' : ∀ c, Spec.Prefix (LR.aM m' c) := fun c => by rw [(hs c).2.1]; exact hp c
  exact ⟨fun c => LK.resY m c, fun c => LK.resH m c, fun c => LK.resC m c, LK.values m g hp, LR.values g' hs hp'⟩

end Cert.Proof

end
-- ==== Proof.lean ====
/-
  The certificate's claims, put together.
-/
module

public import proofs.«01_k».proof.Defs
public import proofs.«01_k».proof.Proof.Frames
public import proofs.«01_k».proof.Proof.Values
public import proofs.«01_k».proof.Proof.Gen.Kernel
public import proofs.«01_k».proof.Proof.Gen.KernelIdeal
public import proofs.«01_k».proof.Proof.Gen.ReferenceIdeal

@[expose] public section

noncomputable section

namespace Cert.Proof

theorem claim : Cert.Claim :=
  ⟨Cert.Kernel.Gen.facts, Cert.KernelIdeal.Gen.facts, Cert.ReferenceIdeal.Gen.facts, pre_facts,
    kernel_frame, kernelIdeal_frame, fun m g _ => LK.frame m g (LK.countOk_ideal m),
    referenceIdeal_frame, fun m g _ => LR.frame m g, trivial, algebraic⟩

end Cert.Proof

end
